-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![4, 256, 16, 64]⟩ ⟨4, ![4, 512, 16, 64]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x16x64 : Shape := ⟨4, ![4, 256, 16, 64]⟩
abbrev S_ : Shape := ⟨0, ![]⟩

class Facts : Prop where
  bitsLt_bf16_f32 : FTy.bits .bf16 < FTy.bits .f32
  bcast_S_S4x256x16x64 : S_.BroadcastsInDim S4x256x16x64 (![] : Fin 0 → Fin S4x256x16x64.rank)
  reducesTo_S4x256x16x64_S_d0_1_2_3 : S4x256x16x64.ReducesTo [0, 1, 2, 3] S_
  h_S_ : 0 < S_.numel

variable [Facts]

def fn {F : FTy → Type} [FloatOps F] (main_arg0 : FVec F S4x256x16x64 .bf16) (main_arg1 : FVec F S4x256x16x64 .bf16) (main_arg2 : FVec F S4x256x16x64 .bf16) : IVec S_ 1 :=
  let main_v0 : FVec F S4x256x16x64 .f32 := (extf .f32 · bitsLt_bf16_f32) main_arg0
  let main_v1 : FVec F S4x256x16x64 .f32 := Host.absf main_v0
  let main_cst : FVec F S_ .f32 := constant S_ .f32 0x7F800000#32
  let main_v2 : FVec F S4x256x16x64 .f32 := broadcastInDim S4x256x16x64 ![] bcast_S_S4x256x16x64 main_cst
  let main_v3 : IVec S4x256x16x64 1 := cmpf .olt main_v1 main_v2
  let main_c : IVec S_ 1 := constantI S_ 1 1#1
  let main_v4 : IVec S_ 1 := (fun x v => Host.reduce IntOp.andi x v reducesTo_S4x256x16x64_S_d0_1_2_3 h_S_) main_v3 main_c
  let main_v5 : FVec F S4x256x16x64 .f32 := (extf .f32 · bitsLt_bf16_f32) main_arg1
  let main_v6 : FVec F S4x256x16x64 .f32 := Host.absf main_v5
  let main_cst_0 : FVec F S_ .f32 := constant S_ .f32 0x7F800000#32
  let main_v7 : FVec F S4x256x16x64 .f32 := broadcastInDim S4x256x16x64 ![] bcast_S_S4x256x16x64 main_cst_0
  let main_v8 : IVec S4x256x16x64 1 := cmpf .olt main_v6 main_v7
  let main_c_1 : IVec S_ 1 := constantI S_ 1 1#1
  let main_v9 : IVec S_ 1 := (fun x v => Host.reduce IntOp.andi x v reducesTo_S4x256x16x64_S_d0_1_2_3 h_S_) main_v8 main_c_1
  let main_v10 : IVec S_ 1 := andi main_v4 main_v9
  main_v10
-- ==== Pre_finite_ReferenceIdeal.lean ====
abbrev S4x512x16x64 : Shape := ⟨4, ![4, 512, 16, 64]⟩
abbrev S_ : Shape := ⟨0, ![]⟩

class Facts : Prop where
  bitsLt_bf16_f32 : FTy.bits .bf16 < FTy.bits .f32
  bcast_S_S4x512x16x64 : S_.BroadcastsInDim S4x512x16x64 (![] : Fin 0 → Fin S4x512x16x64.rank)
  reducesTo_S4x512x16x64_S_d0_1_2_3 : S4x512x16x64.ReducesTo [0, 1, 2, 3] S_
  h_S_ : 0 < S_.numel

variable [Facts]

def fn {F : FTy → Type} [FloatOps F] (main_arg0 : FVec F S4x512x16x64 .bf16) (main_arg1 : FVec F S4x512x16x64 .bf16) (main_arg2 : FVec F S4x512x16x64 .bf16) : IVec S_ 1 :=
  let main_v0 : FVec F S4x512x16x64 .f32 := (extf .f32 · bitsLt_bf16_f32) main_arg0
  let main_v1 : FVec F S4x512x16x64 .f32 := Host.absf main_v0
  let main_cst : FVec F S_ .f32 := constant S_ .f32 0x7F800000#32
  let main_v2 : FVec F S4x512x16x64 .f32 := broadcastInDim S4x512x16x64 ![] bcast_S_S4x512x16x64 main_cst
  let main_v3 : IVec S4x512x16x64 1 := cmpf .olt main_v1 main_v2
  let main_c : IVec S_ 1 := constantI S_ 1 1#1
  let main_v4 : IVec S_ 1 := (fun x v => Host.reduce IntOp.andi x v reducesTo_S4x512x16x64_S_d0_1_2_3 h_S_) main_v3 main_c
  let main_v5 : FVec F S4x512x16x64 .f32 := (extf .f32 · bitsLt_bf16_f32) main_arg1
  let main_v6 : FVec F S4x512x16x64 .f32 := Host.absf main_v5
  let main_cst_0 : FVec F S_ .f32 := constant S_ .f32 0x7F800000#32
  let main_v7 : FVec F S4x512x16x64 .f32 := broadcastInDim S4x512x16x64 ![] bcast_S_S4x512x16x64 main_cst_0
  let main_v8 : IVec S4x512x16x64 1 := cmpf .olt main_v6 main_v7
  let main_c_1 : IVec S_ 1 := constantI S_ 1 1#1
  let main_v9 : IVec S_ 1 := (fun x v => Host.reduce IntOp.andi x v reducesTo_S4x512x16x64_S_d0_1_2_3 h_S_) main_v8 main_c_1
  let main_v10 : IVec S_ 1 := andi main_v4 main_v9
  main_v10
-- ==== Kernel.lean ====
abbrev S4x256x16x64 : Shape := ⟨4, ![4, 256, 16, 64]⟩
abbrev S4x16x256x64 : Shape := ⟨4, ![4, 16, 256, 64]⟩
abbrev S2x4x16x256x64 : Shape := ⟨5, ![2, 4, 16, 256, 64]⟩
abbrev S2 : Shape := ⟨1, ![2]⟩
abbrev S_ : Shape := ⟨0, ![]⟩
abbrev S1 : Shape := ⟨1, ![1]⟩
abbrev S1x4x16x256x64 : Shape := ⟨5, ![1, 4, 16, 256, 64]⟩
abbrev S1x1x256x64 : Shape := ⟨4, ![1, 1, 256, 64]⟩
abbrev S256x64 : Shape := ⟨2, ![256, 64]⟩
abbrev S1x1x1x256x64 : Shape := ⟨5, ![1, 1, 1, 256, 64]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 5
  | .smem => 0
  | _ => 0

abbrev bufTy : (tb : Table) → Fin (tcTables nBuf tb) → BufTy
  | .hbm, ⟨0, _⟩ => ⟨S4x256x16x64, .bf16⟩
  | .hbm, ⟨1, _⟩ => ⟨S4x256x16x64, .bf16⟩
  | .hbm, ⟨2, _⟩ => ⟨S4x256x16x64, .bf16⟩
  | .hbm, ⟨3, _⟩ => ⟨S4x16x256x64, .bf16⟩
  | .hbm, ⟨4, _⟩ => ⟨S4x16x256x64, .bf16⟩
  | .hbm, ⟨5, _⟩ => ⟨S4x16x256x64, .bf16⟩
  | .hbm, ⟨6, _⟩ => ⟨S4x16x256x64, .f32⟩
  | .hbm, ⟨7, _⟩ => ⟨S4x256x16x64, .f32⟩
  | .local _ .vmem, ⟨0, _⟩ => ⟨S4x16x256x64, .bf16⟩
  | .local _ .vmem, ⟨1, _⟩ => ⟨S4x16x256x64, .bf16⟩
  | .local _ .vmem, ⟨2, _⟩ => ⟨S4x16x256x64, .bf16⟩
  | .local _ .vmem, ⟨3, _⟩ => ⟨S4x16x256x64, .f32⟩
  | .local _ .vmem, ⟨4, _⟩ => ⟨S2x4x16x256x64, .bf16⟩
  | _, _ => ⟨S4x256x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_12 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_11 : BitVec 32 := 16#32
  let v17 : BitVec 32 := Scalar.muli v9 c16_i32_11
  let v18 : BitVec 32 := Scalar.addi c0_i32_12 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v19 : BitVec 32 := Scalar.muli v5 c4_i32_13
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v21 : BitVec 32 := Scalar.muli v8 c1_i32_14
  let v22 : BitVec 32 := Scalar.addi v20 v21
  v22.toNat
def k0_dev3 (d0 : Dev nD) : Nat :=
  let c0_i32_23 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_22 : BitVec 32 := 16#32
  let v29 : BitVec 32 := Scalar.muli v9 c16_i32_22
  let v30 : BitVec 32 := Scalar.addi c0_i32_23 v29
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v31 : BitVec 32 := Scalar.muli v5 c4_i32_24
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v33 : BitVec 32 := Scalar.muli v8 c1_i32_25
  let v34 : BitVec 32 := Scalar.addi v32 v33
  v34.toNat
abbrev stage0_0 : Fin 1 → Memref sig .tc .vmem S4x16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x512x16x64, .bf16⟩
  | .hbm, ⟨1, _⟩ => ⟨S4x512x16x64, .bf16⟩
  | .hbm, ⟨2, _⟩ => ⟨S4x512x16x64, .bf16⟩
  | .hbm, ⟨3, _⟩ => ⟨S4x512x16x64, .f32⟩
  | .hbm, ⟨4, _⟩ => ⟨S4x512x16x64, .f32⟩
  | .hbm, ⟨5, _⟩ => ⟨S4x512x16x64, .f32⟩
  | .hbm, ⟨6, _⟩ => ⟨S4x16x512x512, .f32⟩
  | .hbm, ⟨7, _⟩ => ⟨S_, .f32⟩
  | .hbm, ⟨8, _⟩ => ⟨S4x16x512x512, .f32⟩
  | .hbm, ⟨9, _⟩ => ⟨S4x16x512x512, .f32⟩
  | .hbm, ⟨10, _⟩ => ⟨S_, .f32⟩
  | .hbm, ⟨11, _⟩ => ⟨S4x16x512, .f32⟩
  | .hbm, ⟨12, _⟩ => ⟨S4x16x512x1, .f32⟩
  | .hbm, ⟨13, _⟩ => ⟨S4x16x512x512, .f32⟩
  | .hbm, ⟨14, _⟩ => ⟨S4x16x512x512, .f32⟩
  | .hbm, ⟨15, _⟩ => ⟨S4x16x512x512, .f32⟩
  | .hbm, ⟨16, _⟩ => ⟨S_, .f32⟩
  | .hbm, ⟨17, _⟩ => ⟨S4x16x512, .f32⟩
  | .hbm, ⟨18, _⟩ => ⟨S4x16x512x1, .f32⟩
  | .hbm, ⟨19, _⟩ => ⟨S4x16x512x512, .f32⟩
  | .hbm, ⟨20, _⟩ => ⟨S4x16x512x512, .f32⟩
  | .hbm, ⟨21, _⟩ => ⟨S4x16x64x512, .f32⟩
  | .hbm, ⟨22, _⟩ => ⟨S4x512x16x64, .f32⟩
  | _, _ => ⟨S4x512x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Head.lean ====
/-
  The kernel function, cut into what it says once and what it repeats.

  The function first exchanges its keys and values with the partner device (`talk`), then computes the 64 heads
  one after another (`heads`). Every head runs the same lines (`headProg`): it loads its block of the queries, of
  the own keys and values and of the partner's, and stores one block of the result (`headOut`). The printed
  function is `talk` followed by the 64 heads (`body_eq`).
-/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

/-! ## The buffers the function is called on -/

/-- The staged queries, keys, values and result, and the landing buffer of the partner's keys and values. -/
abbrev qM : Memref sig .tc .vmem S4x16x256x64 .bf16 := Memref.whole cc0_stg0_0
abbrev kM : Memref sig .tc .vmem S4x16x256x64 .bf16 := Memref.whole cc0_stg1_0
abbrev vM : Memref sig .tc .vmem S4x16x256x64 .bf16 := Memref.whole cc0_stg2_0
abbrev oM : Memref sig .tc .vmem S4x16x256x64 .f32 := Memref.whole cc0_stg3_0
abbrev xM : Memref sig .tc .vmem S2x4x16x256x64 .bf16 := Memref.whole cc0_scratch0

/-! ## One head -/

/-- The scaled scores of one head against 256 keys. -/
def score (q k : FVec F S256x64 .bf16) : FVec F S256x256 .f32 :=
  mulf (matmul dot_S256x64_S256x64_S256x256_1_1_0_0_n_n none q k (constant S256x256 .f32 0x00000000#32))
    (broadcast S256x256 (Scalar.ofBits .f32 0x3E000000#32))

/-- The greatest score of each row. -/
def rowMax (s : FVec F S256x256 .f32) : FVec F S256x1 .f32 :=
  shapeCast S256x1 (multiReduction .maximumf [1] S256 s 0xFF800000#32 reduces_S256x256_S256 (.inl rfl) rfl) shapeCasts_S256_S256x1

/-- The sum of each row. -/
def rowSum (s : FVec F S256x256 .f32) : FVec F S256x1 .f32 :=
  shapeCast S256x1 (multiReduction .add [1] S256 s 0x00000000#32 reduces_S256x256_S256 (.inl rfl) rfl) shapeCasts_S256_S256x1

/-- The exponentials of the scores less the row's bound. -/
def weight (s : FVec F S256x256 .f32) (b : FVec F S256x1 .f32) : FVec F S256x256 .f32 :=
  exp (subf s (broadcastTo S256x256 b broadcasts_S256x1_S256x256))

/-- The weighted sum of 256 values. -/
def mix (e : FVec F S256x256 .f32) (v : FVec F S256x64 .bf16) : FVec F S256x64 .f32 :=
  matmul dot_S256x256_S256x64_S256x64_1_0_0_1_n_n none (truncf .bf16 e bitsLt_bf16_f32) v (constant S256x64 .f32 0x00000000#32)

/-- One head's result: the softmax over the own 256 keys and the partner's 256 keys together. -/
def attend (q k v kr vr : FVec F S256x64 .bf16) : FVec F S256x64 .f32 :=
  let sl := score q k
  let sr := score q kr
  let b := maximumf (rowMax sl) (rowMax sr)
  let el := weight sl b
  let er := weight sr b
  divf (addf (mix el v) (mix er vr)) (broadcastTo S256x64 (addf (rowSum el) (rowSum er)) broadcasts_S256x1_S256x64)

/-- The block one head stores, from the five blocks it loads. -/
def headOut (q k v : Vec F S1x1x256x64 .bf16) (kr vr : Vec F S1x1x1x256x64 .bf16) : FVec F S1x1x256x64 .f32 :=
  shapeCast S1x1x256x64
    (attend (shapeCast S256x64 q shapeCasts_S1x1x256x64_S256x64) (shapeCast S256x64 k shapeCasts_S1x1x256x64_S256x64)
      (shapeCast S256x64 v shapeCasts_S1x1x256x64_S256x64) (shapeCast S256x64 kr shapeCasts_S1x1x1x256x64_S256x64)
      (shapeCast S256x64 vr shapeCasts_S1x1x1x256x64_S256x64)) shapeCasts_S256x64_S1x1x256x64

theorem inbBlk (i : Fin 64) : ∀ a, (![i.val / 16, i.val % 16, 0, 0] : Fin 4 → Nat) a + S1x1x256x64.size a ≤ S4x16x256x64.size a := by
  revert i; decide
theorem inbLand (s : Fin 2) (i : Fin 64) :
    ∀ a, (![s.val, i.val / 16, i.val % 16, 0, 0] : Fin 5 → Nat) a + S1x1x1x256x64.size a ≤ S2x4x16x256x64.size a := by
  revert s i; decide

/-- Head `i`'s block of an array. -/
abbrev blkR (i : Fin 64) : Rect S4x16x256x64 := Rect.unit (s := S4x16x256x64) ![i.val / 16, i.val % 16, 0, 0] S1x1x256x64.size (inbBlk i)
/-- Head `i`'s block of half `s` of the landing buffer. -/
abbrev landR (s : Fin 2) (i : Fin 64) : Rect S2x4x16x256x64 :=
  Rect.unit (s := S2x4x16x256x64) ![s.val, i.val / 16, i.val % 16, 0, 0] S1x1x1x256x64.size (inbLand s i)

/-- The lines of head `i`. -/
def headProg (i : Fin 64) : Prog (TpuEff nD τ sig (Elt F) Λ₀ .tc) PUnit := do
  let q : Vec F S1x1x256x64 .bf16 ← Prog.lift (.load qM (blkR i).toLoadRect (View.loadsAt_vmem h_S1x1x256x64))
  let k : Vec F S1x1x256x64 .bf16 ← Prog.lift (.load kM (blkR i).toLoadRect (View.loadsAt_vmem h_S1x1x256x64))
  let v : Vec F S1x1x256x64 .bf16 ← Prog.lift (.load vM (blkR i).toLoadRect (View.loadsAt_vmem h_S1x1x256x64))
  let kr : Vec F S1x1x1x256x64 .bf16 ← Prog.lift (.load xM (landR 0 i).toLoadRect (View.loadsAt_vmem h_S1x1x1x256x64))
  let vr : Vec F S1x1x1x256x64 .bf16 ← Prog.lift (.load xM (landR 1 i).toLoadRect (View.loadsAt_vmem h_S1x1x1x256x64))
  let _o : Vec F S1x1x256x64 .f32 ← Prog.lift (.load oM (blkR i).toLoadRect (View.loadsAt_vmem h_S1x1x256x64))
  Prog.lift (.store oM (blkR i) (headOut q k v kr vr) Finset.univ (View.stores_vmem_bits_univ h_S1x1x256x64 rfl) (.inl rfl))

/-- The last `n` heads, in order. -/
def heads : Nat → Prog (TpuEff nD τ sig (Elt F) Λ₀ .tc) PUnit
  | 0 => pure ⟨⟩
  | n + 1 => do headProg ⟨63 - n, by omega⟩; heads n

/-! ## The exchange -/

theorem inbHalf (s : Fin 2) : ∀ a, (![s.val, 0, 0, 0, 0] : Fin 5 → Nat) a + S1x4x16x256x64.size a ≤ S2x4x16x256x64.size a := by
  revert s; decide
theorem inbPair (s : Fin 2) : ∀ a, (![s.val] : Fin 1 → Nat) a + S1.size a ≤ S2.size a := by revert s; decide
theorem words_half (s : Fin 2) :
    (Rect.unit (s := S2x4x16x256x64) ![s.val, 0, 0, 0, 0] S1x4x16x256x64.size (inbHalf s)).WholeWords (EltTy.packing .bf16) :=
  match s with
  | ⟨0, _⟩ => wordsbf16_S2x4x16x256x64_S1x4x16x256x64_0_0_0_0_0
  | ⟨1, _⟩ => wordsbf16_S2x4x16x256x64_S1x4x16x256x64_1_0_0_0_0

/-- The halves of the landing buffer: the partner's keys land in half 0, its values in half 1. -/
abbrev halfM (s : Fin 2) : Memref sig .tc .vmem S4x16x256x64 .bf16 :=
  (xM.slice (Rect.unit (s := S2x4x16x256x64) ![s.val, 0, 0, 0, 0] S1x4x16x256x64.size (inbHalf s)) (fun _ => rfl)).squeeze
    S4x16x256x64 squeezes_S1x4x16x256x64_S4x16x256x64

/-- The semaphores: the barrier, the two that count the outgoing copies, the two that count the incoming ones. -/
abbrev barS : Sem sig := (SemArray.scalar (sig.barrier 0 rfl) : Sems sig S_).sem
abbrev sS (s : Fin 2) : DmaSem sig := ((cc0_scratch1.slice (Rect.unit (s := S2) ![s.val] S1.size (inbPair s))).squeeze S_ squeezes_S1_S_).sem
abbrev rS (s : Fin 2) : DmaSem sig := ((cc0_scratch2.slice (Rect.unit (s := S2) ![s.val] S1.size (inbPair s))).squeeze S_ squeezes_S1_S_).sem

theorem half_words (s : Fin 2) : (halfM s).view.WordExact :=
  ((Memref.isWhole_whole cc0_scratch0).wordExact_slice rfl _ (words_half s)).reshape _ _

/-- The exchange with the partner: meet it at the barrier, send it the own keys and values, and wait until both
    copies have left and both of the partner's have arrived. -/
def talk : Prog (TpuEff nD τ sig (Elt F) Λ₀ .tc) PUnit := do
  let d : Dev nD ← Prog.lift .deviceId
  semSignalWord (⟨k0_dev1 d, k0_dev1_lt d⟩ : Dev nD) barS 1#32
  semWaitWord barS 1#32
  Prog.lift (.enqueueDma kM (.remote (Dev.tc (⟨k0_dev2 d, k0_dev2_lt d⟩ : Dev nD)) (halfM 0) (.dma (sS 0))) (.dma (rS 0))
    (Memref.isWhole_whole cc0_stg1_0).wordExact (half_words 0) ⟨⟨rfl, Or.inl rfl⟩, trivial⟩)
  Prog.lift (.enqueueDma vM (.remote (Dev.tc (⟨k0_dev3 d, k0_dev3_lt d⟩ : Dev nD)) (halfM 1) (.dma (sS 1))) (.dma (rS 1))
    (Memref.isWhole_whole cc0_stg2_0).wordExact (half_words 1) ⟨⟨rfl, Or.inl rfl⟩, trivial⟩)
  Prog.lift (.waitDma2 (sS 0) (halfM 0) kM (half_words 0) (Memref.isWhole_whole cc0_stg1_0).wordExact)
  Prog.lift (.waitDma2 (rS 0) kM (halfM 0) (Memref.isWhole_whole cc0_stg1_0).wordExact (half_words 0))
  Prog.lift (.waitDma2 (sS 1) (halfM 1) vM (half_words 1) (Memref.isWhole_whole cc0_stg2_0).wordExact)
  Prog.lift (.waitDma2 (rS 1) vM (halfM 1) (Memref.isWhole_whole cc0_stg2_0).wordExact (half_words 1))

/-! ## The printed function -/

/-- The printed function on the buffers it is called on. -/
abbrev body : Prog (TpuEff nD τ sig (Elt F) Λ₀ .tc) PUnit :=
  cc0_body qM (Memref.isWhole_whole _) kM (Memref.isWhole_whole _) vM (Memref.isWhole_whole _) oM (Memref.isWhole_whole _)
    xM (Memref.isWhole_whole _) cc0_scratch1 cc0_scratch2

set_option maxRecDepth 100000 in
/-- The printed function is the exchange followed by the 64 heads. -/
theorem body_eq : body (F := F) = (talk >>= fun _ => heads 64) := by chain_rfl

end Cert.KernelIdeal.Attn

end
-- ==== Proof.Heads.lean ====
/-
  The run of the heads.

  `headAt … i` is the block head `i` stores, a function of what the four buffers it loads from hold. `wp_heads` runs
  the last `n` heads, by induction on `n`: each one rewrites its own block of the result's buffer and changes nothing
  else. After all 64 the buffer holds `outBuf`, whatever it held before (`stores_all`).
-/
module

public import proofs.«01_k».proof.Proof.Head
public import Idealize.ShloMosaic.Lib.Pipeline.Regions
public import Idealize.ShloMosaic.Lib.StableHlo
public import Idealize.ShloMosaic.PureOps

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- The contents of a staging buffer of queries, keys or values; of the landing buffer; of the result's. -/
abbrev InBuf (F : FTy → Type) : Type := (cc0_stg0_0 : Ref sig .tc).ty.Contents (Elt F)
abbrev LandBuf (F : FTy → Type) : Type := (cc0_scratch0 : Ref sig .tc).ty.Contents (Elt F)
abbrev OutBuf (F : FTy → Type) : Type := (cc0_stg3_0 : Ref sig .tc).ty.Contents (Elt F)

/-- Head `i`'s block of a staged array and of a half of the landing buffer. -/
def blkOf (f : InBuf F) (i : Fin 64) : Vec F S1x1x256x64 .bf16 :=
  (qM : Memref sig .tc .vmem S4x16x256x64 .bf16).view.readAt (Elt F) (blkR i).toLoadRect f
def landOf (f : LandBuf F) (s : Fin 2) (i : Fin 64) : Vec F S1x1x1x256x64 .bf16 :=
  (xM : Memref sig .tc .vmem S2x4x16x256x64 .bf16).view.readAt (Elt F) (landR s i).toLoadRect f

/-- What head `i` stores when the queries' buffer holds `q`, the own keys' `k`, the own values' `v` and the landing buffer `x`. -/
def headAt (q k v : InBuf F) (x : LandBuf F) (i : Fin 64) : FVec F S1x1x256x64 .f32 :=
  headOut (blkOf q i) (blkOf k i) (blkOf v i) (landOf x 0 i) (landOf x 1 i)

/-- The result's buffer, from contents `f`, after the store of head `i`; -/
def store1 (q k v : InBuf F) (x : LandBuf F) (i : Fin 64) (f : OutBuf F) : OutBuf F :=
  ((oM : Memref sig .tc .vmem S4x16x256x64 .f32).access (blkR i) : View sig .tc _ _ _).write (Elt F) f (headAt q k v x i) Finset.univ
/-- after the last `n` heads' stores. -/
def stores (q k v : InBuf F) (x : LandBuf F) : Nat → OutBuf F → OutBuf F
  | 0, f => f
  | n + 1, f => stores q k v x n (store1 q k v x ⟨63 - n, by omega⟩ f)

/-- The head an index of the result lies in, and its place in the head's block. -/
def headOf (i : S4x16x256x64.Idx) : Fin 64 := ⟨16 * (i 0).val + (i 1).val, by
  have h0 := (i 0).isLt; have h1 := (i 1).isLt
  simp [Shape.size] at h0 h1; omega⟩
def placeOf (i : S4x16x256x64.Idx) : S1x1x256x64.Idx := fun a => match a with
  | ⟨0, _⟩ => (0 : Fin 1) | ⟨1, _⟩ => (0 : Fin 1) | ⟨2, _⟩ => i 2 | ⟨3, _⟩ => i 3

/-- The result's buffer when every head is done. -/
def outBuf (q k v : InBuf F) (x : LandBuf F) : OutBuf F := fun i => headAt q k v x (headOf i) (placeOf i)

theorem emb_place (i : S4x16x256x64.Idx) : (blkR (headOf i)).emb (placeOf i) = i := by
  funext a
  apply Fin.ext
  have h1 : (i 1).val < 16 := (i 1).isLt
  rw [Rect.emb_apply]
  fin_cases a
  · show (16 * (i 0).val + (i 1).val) / 16 + 1 * 0 = (i 0).val; omega
  · show (16 * (i 0).val + (i 1).val) % 16 + 1 * 0 = (i 1).val; omega
  · show 0 + 1 * (i 2).val = (i 2).val; omega
  · show 0 + 1 * (i 3).val = (i 3).val; omega

theorem headOf_emb (h : Fin 64) (y : S1x1x256x64.Idx) : headOf ((blkR h).emb y) = h := by
  apply Fin.ext
  have h0 : (y 0).val < 1 := (y 0).isLt
  have h1 : (y 1).val < 1 := (y 1).isLt
  have e0 : ((blkR h).emb y 0).val = h.val / 16 + 1 * (y 0).val := rfl
  have e1 : ((blkR h).emb y 1).val = h.val % 16 + 1 * (y 1).val := rfl
  show 16 * ((blkR h).emb y 0).val + ((blkR h).emb y 1).val = h.val
  rw [e0, e1]; omega

theorem store1_at (q k v : InBuf F) (x : LandBuf F) (h : Fin 64) (f : OutBuf F) (i : S4x16x256x64.Idx) :
    store1 q k v x h f i = if headOf i = h then outBuf q k v x i else f i := by
  unfold store1
  by_cases hi : headOf i = h
  · subst hi
    rw [if_pos rfl]
    have e : ((oM : Memref sig .tc .vmem S4x16x256x64 .f32).access (blkR (headOf i)) : View sig .tc _ _ _).emb (placeOf i) = i := emb_place i
    have := View.write_emb_of_mem (v := ((oM : Memref sig .tc .vmem S4x16x256x64 .f32).access (blkR (headOf i)) : View sig .tc _ _ _)) (Val := Elt F)
      f (headAt q k v x (headOf i)) (M := Finset.univ) (x := placeOf i) (Finset.mem_univ _)
    rw [e] at this
    rw [this]; rfl
  · rw [if_neg hi]
    refine View.write_of_not_mem _ _ _ fun hm => hi ?_
    obtain ⟨y, -, hy⟩ := Finset.mem_map.mp hm
    rw [← hy]; exact headOf_emb h y

theorem stores_at (q k v : InBuf F) (x : LandBuf F) (n : Nat) (hn : n ≤ 64) (f : OutBuf F) (i : S4x16x256x64.Idx) :
    stores q k v x n f i = if 64 - n ≤ (headOf i).val then outBuf q k v x i else f i := by
  induction n generalizing f with
  | zero => have := (headOf i).isLt; rw [if_neg (by omega)]; rfl
  | succ n ih =>
    show stores q k v x n (store1 q k v x ⟨63 - n, by omega⟩ f) i = _
    rw [ih (by omega), store1_at]
    by_cases h1 : 64 - n ≤ (headOf i).val
    · rw [if_pos h1, if_pos (by omega)]
    · rw [if_neg h1]
      by_cases h2 : headOf i = ⟨63 - n, by omega⟩
      · have := congrArg Fin.val h2; simp only at this
        rw [if_pos h2, if_pos (by omega)]
      · have : (headOf i).val ≠ 63 - n := fun e => h2 (Fin.ext e)
        rw [if_neg h2, if_neg (by omega)]

/-- All 64 heads leave the closed form, whatever the buffer held. -/
theorem stores_all (q k v : InBuf F) (x : LandBuf F) (f : OutBuf F) : stores q k v x 64 f = outBuf q k v x :=
  funext fun i => by rw [stores_at q k v x 64 (le_refl _), if_pos (by omega)]

/-! ## The run -/

abbrev UU : Type := UR sig nD τ × UR sig nD τ
local notation "𝕄" => MT nD τ sig Unit (Elt F) ℕ UU ℕ

/-- A whole buffer of device `c`, at contents `f`. -/
abbrev pts (c : Dev nD) (b : Ref sig .tc) (f : b.ty.Contents (Elt F)) : sProp 𝕄 := (((c : Thread nD τ).loc b) ↦{fullShare} f)

/-- The five buffers the heads run on. -/
def five (c : Dev nD) (q k v : InBuf F) (x : LandBuf F) (f : OutBuf F) : sProp 𝕄 :=
  iprop(pts c cc0_stg0_0 q ∗ pts c cc0_stg1_0 k ∗ pts c cc0_stg2_0 v ∗ pts c cc0_scratch0 x ∗ pts c cc0_stg3_0 f)

/-- One head. -/
theorem wp_head (c : Dev nD) (q k v : InBuf F) (x : LandBuf F) (f : OutBuf F) (i : Fin 64) (Q : PUnit → sProp 𝕄) :
    iprop(five c q k v x f ∗ (five c q k v x (store1 q k v x i f) -∗ Q ⟨⟩))
      ⊢ wp frame (wpE (defs₀ (F := F)) 𝒱₀ (c : Thread nD τ) none) Set.univ (headProg i) Q := by
  unfold headProg five
  simp only [Prog.lift, Prog.bind_op, Prog.bind_ret, Prog.pure_eq_ret]
  iintro ⟨⟨Hq, Hk, Hv, Hx, Ho⟩, HQ⟩
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Ho; iintro Ho
  iapply (wp_store 𝒱₀ (c : Thread nD τ) none Set.univ (m := oM) (r := blkR i) (Mk := Finset.univ) (Finset.subset_univ _)) $$ Ho; iintro Ho
  rw [wp_ret]; imodintro
  iapply HQ
  isplitl [Hq]; · iexact Hq
  isplitl [Hk]; · iexact Hk
  isplitl [Hv]; · iexact Hv
  isplitl [Hx]; · iexact Hx
  iexact Ho

/-- The last `n` heads. -/
theorem wp_heads (c : Dev nD) (q k v : InBuf F) (x : LandBuf F) (n : Nat) (f : OutBuf F) (Q : PUnit → sProp 𝕄) :
    iprop(five c q k v x f ∗ (five c q k v x (stores q k v x n f) -∗ Q ⟨⟩))
      ⊢ wp frame (wpE (defs₀ (F := F)) 𝒱₀ (c : Thread nD τ) none) Set.univ (heads n) Q := by
  induction n generalizing f with
  | zero =>
    show _ ⊢ wp frame _ Set.univ (Prog.ret PUnit.unit) Q
    iintro ⟨H, HQ⟩
    rw [wp_ret]; imodintro
    iapply HQ; iexact H
  | succ n ih =>
    show _ ⊢ wp frame _ Set.univ (headProg ⟨63 - n, by omega⟩ >>= fun _ => heads n) Q
    have hn : 63 - n < 64 := by omega
    rw [wp_bind]
    iintro ⟨H, HQ⟩
    iapply (wp_head c q k v x f ⟨63 - n, hn⟩ fun _ => wp frame (wpE (defs₀ (F := F)) 𝒱₀ (c : Thread nD τ) none) Set.univ (heads n) Q)
    isplitl [H]; · iexact H
    iintro H
    iapply (ih (store1 q k v x ⟨63 - n, hn⟩ f))
    isplitl [H]; · iexact H
    iexact HQ

end Cert.KernelIdeal.Attn

end
-- ==== Proof.Land.lean ====
/-
  The landing buffer.

  Its elements are those of its two halves, apart from each other (`halves_disjoint`, `halves_union`). A copy of a
  whole staged array into half `s` leaves element `i` of the array at `(s, i)` (`half_written`); `landed k v` is
  the buffer with `k` in half 0 and `v` in half 1.
-/
module

public import proofs.«01_k».proof.Proof.Heads

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The elements of half `s`. -/
def halfSet (s : Fin 2) : Finset S2x4x16x256x64.Idx := Finset.univ.filter fun i => (i 0).val = s.val

theorem mem_halfSet {s : Fin 2} {i : S2x4x16x256x64.Idx} : i ∈ halfSet s ↔ (i 0).val = s.val := by
  unfold halfSet; rw [Finset.mem_filter]; exact ⟨fun h => h.2, fun h => ⟨Finset.mem_univ _, h⟩⟩

theorem halves_disjoint : Disjoint (halfSet 0) (halfSet 1) := by
  rw [Finset.disjoint_left]
  intro i h0 h1
  rw [mem_halfSet] at h0 h1
  rw [h0] at h1; exact absurd h1 (by decide)

theorem halves_union : halfSet 0 ∪ halfSet 1 = Finset.univ := by
  ext i
  have h : (i 0).val < 2 := (i 0).isLt
  rw [Finset.mem_union, mem_halfSet, mem_halfSet]
  refine ⟨fun _ => Finset.mem_univ _, fun _ => ?_⟩
  show (i 0).val = 0 ∨ (i 0).val = 1
  omega

/-- An index of the landing buffer without its half. -/
def inHalf (i : S2x4x16x256x64.Idx) : S4x16x256x64.Idx := fun a => match a with
  | ⟨0, _⟩ => i 1 | ⟨1, _⟩ => i 2 | ⟨2, _⟩ => i 3 | ⟨3, _⟩ => i 4

theorem half_emb (s : Fin 2) (y : S4x16x256x64.Idx) :
    ((((halfM s).view.emb y : S2x4x16x256x64.Idx) 0).val = s.val) ∧ inHalf ((halfM s).view.emb y) = y := by
  have e : ((halfM s).view.emb y : S2x4x16x256x64.Idx)
      = (Rect.unit (s := S2x4x16x256x64) ![s.val, 0, 0, 0, 0] S1x4x16x256x64.size (inbHalf s)).emb
          (Shape.reshapeEquiv (s := S1x4x16x256x64) (s' := S4x16x256x64) squeezes_S1x4x16x256x64_S4x16x256x64.numel_eq y) := rfl
  rw [e, Shape.reshapeEquiv_cons_one (d := S4x16x256x64.size) squeezes_S1x4x16x256x64_S4x16x256x64.numel_eq y]
  refine ⟨?_, funext fun a => Fin.ext ?_⟩
  · show s.val + 1 * 0 = s.val; omega
  · fin_cases a
    · show 0 + 1 * (y 0).val = (y 0).val; omega
    · show 0 + 1 * (y 1).val = (y 1).val; omega
    · show 0 + 1 * (y 2).val = (y 2).val; omega
    · show 0 + 1 * (y 3).val = (y 3).val; omega

theorem half_set (s : Fin 2) : (halfM s).view.set = halfSet s := by
  show ((xM.slice (Rect.unit (s := S2x4x16x256x64) ![s.val, 0, 0, 0, 0] S1x4x16x256x64.size (inbHalf s)) (fun _ => rfl)).squeeze
    S4x16x256x64 squeezes_S1x4x16x256x64_S4x16x256x64).view.set = halfSet s
  refine (View.set_reshape _ _).trans ((View.set_slice_whole cc0_scratch0 _).trans ?_)
  ext i
  rw [mem_halfSet, Rect.mem_set_unit]
  have h1 : (i 1).val < 4 := (i 1).isLt
  have h2 : (i 2).val < 16 := (i 2).isLt
  have h3 : (i 3).val < 256 := (i 3).isLt
  have h4 : (i 4).val < 64 := (i 4).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 4; omega
    · show 0 ≤ (i 2).val ∧ (i 2).val < 0 + 16; omega
    · show 0 ≤ (i 3).val ∧ (i 3).val < 0 + 256; omega
    · show 0 ≤ (i 4).val ∧ (i 4).val < 0 + 64; omega

/-- The landing buffer with `k` in half 0 and `v` in half 1. -/
def landed (k v : InBuf F) : LandBuf F := fun i => if (i 0).val = 0 then k (inHalf i) else v (inHalf i)

/-- A whole array written into half `s`, on the half's elements. -/
theorem half_written (s : Fin 2) (f : LandBuf F) (w : InBuf F) (i : S2x4x16x256x64.Idx) (h : i ∈ halfSet s) :
    (halfM s).view.write (Elt F) f w Finset.univ i = w (inHalf i) := by
  rw [← half_set] at h
  obtain ⟨y, -, rfl⟩ := Finset.mem_map.mp h
  rw [View.write_emb_of_mem _ _ (Finset.mem_univ y)]
  show w y = w (inHalf ((halfM s).view.emb y))
  rw [(half_emb s y).2]

/-- What the heads load from the landing buffer, and from a staged array, element by element. -/
theorem landOf_apply (f : LandBuf F) (s : Fin 2) (i : Fin 64) (x : S1x1x1x256x64.Idx) : landOf f s i x = f ((landR s i).emb x) := rfl
theorem blkOf_apply (f : InBuf F) (i : Fin 64) (x : S1x1x256x64.Idx) : blkOf f i x = f ((blkR i).emb x) := rfl

end Cert.KernelIdeal.Attn

end
-- ==== Proof.Talk.lean ====
/-
  The exchange between a device and its partner.

  The agreement, one round on each of a device's five semaphores:
  * the barrier: the partner's one unit hands over the partner's landing buffer (both halves) and tells that the
    partner's two arrival semaphores stand at their first round;
  * departure semaphore `s`: the own copy hands back its source, the own staged keys (0) or values (1);
  * arrival semaphore `s`: the partner's copy hands back half `s` of the own landing buffer, holding the partner's
    keys (0) or values (1).
  Everything is stated for any `kd`, `vd`: what each device's staging buffers of keys and values hold.
-/
module

public import proofs.«01_k».proof.Proof.Land

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb (UR sig nD τ) (MT nD τ sig Unit (Elt F) ℕ UU ℕ) := embR

/-! ## The partner, the semaphores -/

/-- The partner of a device: the one at the other place of the mesh's first axis. -/
def pr (c : Dev nD) : Dev nD := ⟨(c.val + 16) % 32, Nat.mod_lt _ (by decide)⟩
theorem pr_pr (c : Dev nD) : pr (pr c) = c := Fin.ext (by
  have h : c.val < 32 := c.isLt
  show ((c.val + 16) % 32 + 16) % 32 = c.val
  omega)
def swap : Dev nD ≃ Dev nD := ⟨pr, pr, pr_pr, pr_pr⟩

theorem pr_of_closed (c : Dev nD) (n : ℕ) (hn : n < nD) (h : n = (4 * ((c.val / 4) % 4) + (c.val % 4) + 16) - 16 * (c.val / 16)) :
    (⟨n, hn⟩ : Dev nD) = pr c := Fin.ext (by
  have hc : c.val < 32 := c.isLt
  show n = (c.val + 16) % 32
  omega)
theorem dev1_eq (c : Dev nD) : (⟨k0_dev1 c, k0_dev1_lt c⟩ : Dev nD) = pr c := pr_of_closed c _ _ (k0_dev1_eq c)
theorem dev2_eq (c : Dev nD) : (⟨k0_dev2 c, k0_dev2_lt c⟩ : Dev nD) = pr c := pr_of_closed c _ _ (k0_dev2_eq c)
theorem dev3_eq (c : Dev nD) : (⟨k0_dev3 c, k0_dev3_lt c⟩ : Dev nD) = pr c := pr_of_closed c _ _ (k0_dev3_eq c)

abbrev barCell (c : Dev nD) : GSem nD τ sig := ((c : Thread nD τ), .reg barS)
abbrev sCell (s : Fin 2) (c : Dev nD) : GSem nD τ sig := ((c : Thread nD τ), .dma (sS s))
abbrev rCell (s : Fin 2) (c : Dev nD) : GSem nD τ sig := ((c : Thread nD τ), .dma (rS s))

/-- What one copy counts. -/
abbrev N : ℕ := (halfM 0).view.dmaCredit
theorem N_pos : 0 < N := View.dmaCredit_pos _ (by decide)
theorem credit_half (s : Fin 2) : (halfM s).view.dmaCredit = N := rfl
theorem credit_k : (kM : Memref sig .tc .vmem S4x16x256x64 .bf16).view.dmaCredit = N := rfl
theorem credit_v : (vM : Memref sig .tc .vmem S4x16x256x64 .bf16).view.dmaCredit = N := rfl

theorem s_ne_bar (s : Fin 2) : (SemLoc.dma (sS s) : SemLoc sig) ≠ .reg barS := fun h => by cases h
theorem r_ne_bar (s : Fin 2) : (SemLoc.dma (rS s) : SemLoc sig) ≠ .reg barS := fun h => by cases h
theorem s_ne_r : ∀ s t : Fin 2, (SemLoc.dma (sS s) : SemLoc sig) ≠ .dma (rS t) := by decide
theorem s_inj : ∀ s t : Fin 2, (SemLoc.dma (sS s) : SemLoc sig) = .dma (sS t) → s = t := by decide
theorem r_inj : ∀ s t : Fin 2, (SemLoc.dma (rS s) : SemLoc sig) = .dma (rS t) → s = t := by decide

/-! ## The schedule -/

/-- Half `s` of device `c`'s landing buffer. -/
def hPts (s : Fin 2) (c : Dev nD) (f : LandBuf F) : sProp 𝕄 := ((c : Thread nD τ).loc cc0_scratch0) ↦[halfSet s]{fullShare} f
instance hPts_storable (s : Fin 2) (c : Dev nD) (f : LandBuf F) : BI.Storable (upEmb : UEmb _ 𝕄) (hPts s c f) := by unfold hPts; infer_instance

/-- The half as the copies' destination names it. -/
theorem hPts_eq (s : Fin 2) (c : Dev nD) (f : LandBuf F) :
    hPts s c f = ((halfM s).view.loc (c : Thread nD τ) ↦[(halfM s).view.set]{fullShare} f : sProp 𝕄) := by
  rw [half_set]; rfl

/-- The whole landing buffer is its halves. -/
theorem halves (c : Dev nD) (f : LandBuf F) : (pts c cc0_scratch0 f : sProp 𝕄) ⊣⊢ iprop(hPts 0 c f ∗ hPts 1 c f) := by
  have h := pointsTo_union (Ix := Unit) (Name := ℕ) (U := UU) (Lvl := ℕ) (Val := Elt F) (ℓ := (c : Thread nD τ).loc cc0_scratch0) (q := fullShare) (f := f) halves_disjoint
  rw [halves_union] at h
  exact h

/-- Staged keys or values, whole, as the copies' source names them. -/
theorem k_eq (c : Dev nD) (f : InBuf F) :
    (pts c cc0_stg1_0 f : sProp 𝕄) = ((kM : Memref sig .tc .vmem S4x16x256x64 .bf16).view.loc (c : Thread nD τ)
      ↦[(kM : Memref sig .tc .vmem S4x16x256x64 .bf16).view.set]{fullShare} f : sProp 𝕄) := by
  rw [show (kM : Memref sig .tc .vmem S4x16x256x64 .bf16).view.set = Finset.univ from View.set_whole _]
theorem v_eq (c : Dev nD) (f : InBuf F) :
    (pts c cc0_stg2_0 f : sProp 𝕄) = ((vM : Memref sig .tc .vmem S4x16x256x64 .bf16).view.loc (c : Thread nD τ)
      ↦[(vM : Memref sig .tc .vmem S4x16x256x64 .bf16).view.set]{fullShare} f : sProp 𝕄) := by
  rw [show (vM : Memref sig .tc .vmem S4x16x256x64 .bf16).view.set = Finset.univ from View.set_whole _]

variable (kd vd : Dev nD → InBuf F)

/-- What device `c`'s landing buffer holds once both of its partner's copies have arrived. -/
abbrev got (c : Dev nD) : LandBuf F := landed (kd (pr c)) (vd (pr c))

/-- Handed to device `c` through its barrier. -/
def barPay (c : Dev nD) : sProp 𝕄 :=
  iprop((∃ f, hPts 0 (pr c) f) ∗ (∃ f, hPts 1 (pr c) f) ∗ reached ER (rCell 0 (pr c)) 0 ∗ reached ER (rCell 1 (pr c)) 0)

abbrev IsTalk (g : GSem nD τ sig) : Prop :=
  g.1.2 = .tc ∧ (g.2 = .reg barS ∨ (∃ s, g.2 = .dma (sS s)) ∨ ∃ s, g.2 = .dma (rS s))

def talkRd : Rounds.Schedule (GSem nD τ sig) Unit 𝕄 where
  duties g r := if r = 0 ∧ IsTalk g then {()} else ∅
  unitless _ := False
  amount g _ _ := if g.2 = .reg barS then 1 else N
  payload g _ _ :=
    if g.2 = .reg barS then barPay g.1.1
    else if g.2 = .dma (rS 0) then hPts 0 g.1.1 (got kd vd g.1.1)
    else if g.2 = .dma (rS 1) then hPts 1 g.1.1 (got kd vd g.1.1)
    else if g.2 = .dma (sS 0) then pts g.1.1 cc0_stg1_0 (kd g.1.1)
    else pts g.1.1 cc0_stg2_0 (vd g.1.1)
  amount_pos g _ _ _ := by
    by_cases h : g.2 = .reg barS
    · rw [if_pos h]; exact Nat.one_pos
    · rw [if_neg h]; exact N_pos

instance talkRd_payload_storable (g : GSem nD τ sig) (r : ℕ) (d : Unit) :
    BI.Storable (upEmb : UEmb _ 𝕄) ((talkRd kd vd).payload g r d) := by
  show BI.Storable upEmb (if g.2 = .reg barS then barPay g.1.1 else if g.2 = .dma (rS 0) then hPts 0 g.1.1 (got kd vd g.1.1)
    else if g.2 = .dma (rS 1) then hPts 1 g.1.1 (got kd vd g.1.1) else if g.2 = .dma (sS 0) then pts g.1.1 cc0_stg1_0 (kd g.1.1)
    else pts g.1.1 cc0_stg2_0 (vd g.1.1))
  unfold barPay
  (repeat' split) <;> infer_instance

section Sched

variable (c : Dev nD) (s : Fin 2)

theorem duties_talk (g : GSem nD τ sig) (h : IsTalk g) : (talkRd kd vd).duties g 0 = {()} := by dsimp only [talkRd]; exact if_pos ⟨rfl, h⟩
theorem bar_talk : IsTalk (barCell c) := ⟨rfl, .inl rfl⟩
theorem s_talk : IsTalk (sCell s c) := ⟨rfl, .inr (.inl ⟨s, rfl⟩)⟩
theorem r_talk : IsTalk (rCell s c) := ⟨rfl, .inr (.inr ⟨s, rfl⟩)⟩
theorem mem_duties (g : GSem nD τ sig) (h : IsTalk g) : () ∈ (talkRd kd vd).duties g 0 := by
  rw [duties_talk kd vd g h]; exact Finset.mem_singleton_self _
theorem duties_later (g : GSem nD τ sig) : ∀ r, 1 ≤ r → (talkRd kd vd).duties g r = ∅ :=
  fun r hr => by dsimp only [talkRd]; rw [if_neg (fun h => by omega)]

theorem amount_bar (u : Unit) : (talkRd kd vd).amount (barCell c) 0 u = 1 := by dsimp only [talkRd]; exact if_pos rfl
theorem amount_s (u : Unit) : (talkRd kd vd).amount (sCell s c) 0 u = N := by dsimp only [talkRd]; exact if_neg (s_ne_bar s)
theorem amount_r (u : Unit) : (talkRd kd vd).amount (rCell s c) 0 u = N := by dsimp only [talkRd]; exact if_neg (r_ne_bar s)

theorem expect_of (g : GSem nD τ sig) (h : IsTalk g) (n : ℕ) (ha : (talkRd kd vd).amount g 0 () = n) : (talkRd kd vd).expect g 0 = n := by
  unfold Schedule.expect Schedule.amountOf; rw [duties_talk kd vd g h, Finset.sum_singleton, ha]
theorem expect_bar : (talkRd kd vd).expect (barCell c) 0 = 1 := expect_of kd vd _ (bar_talk c) 1 (amount_bar kd vd c ())
theorem expect_s : (talkRd kd vd).expect (sCell s c) 0 = N := expect_of kd vd _ (s_talk c s) N (amount_s kd vd c s ())
theorem expect_r : (talkRd kd vd).expect (rCell s c) 0 = N := expect_of kd vd _ (r_talk c s) N (amount_r kd vd c s ())

theorem payload_bar : (talkRd kd vd).payload (barCell c) 0 () = barPay c := by dsimp only [talkRd]; exact if_pos rfl
theorem payload_r0 : (talkRd kd vd).payload (rCell 0 c) 0 () = hPts 0 c (got kd vd c) := by
  dsimp only [talkRd]; rw [if_neg (r_ne_bar 0), if_pos rfl]
theorem payload_r1 : (talkRd kd vd).payload (rCell 1 c) 0 () = hPts 1 c (got kd vd c) := by
  dsimp only [talkRd]; rw [if_neg (r_ne_bar 1), if_neg (fun h => absurd (r_inj 1 0 h) (by decide)), if_pos rfl]
theorem payload_s0 : (talkRd kd vd).payload (sCell 0 c) 0 () = pts c cc0_stg1_0 (kd c) := by
  dsimp only [talkRd]; rw [if_neg (s_ne_bar 0), if_neg (s_ne_r 0 0), if_neg (s_ne_r 0 1), if_pos rfl]
theorem payload_s1 : (talkRd kd vd).payload (sCell 1 c) 0 () = pts c cc0_stg2_0 (vd c) := by
  dsimp only [talkRd]; rw [if_neg (s_ne_bar 1), if_neg (s_ne_r 1 0), if_neg (s_ne_r 1 1), if_neg (fun h => absurd (s_inj 1 0 h) (by decide))]

/-- All that is left to collect of a round with nothing collected yet is its one payload. -/
theorem rest_of (g : GSem nD τ sig) (h : IsTalk g) :
    bigSep ((talkRd kd vd).duties g 0 \ ∅) (fun u => (talkRd kd vd).payload g 0 u) = (talkRd kd vd).payload g 0 () := by
  rw [Finset.sdiff_empty, duties_talk kd vd g h, bigSep_singleton]

end Sched

/-! ## What a device owes at launch; the levels -/

/-- The partner's two arrivals. -/
def O₁ (c : Dev nD) : CellTallies nD τ sig Unit := tallyAt (rCell 1 (pr c)) () N + tallyAt (rCell 0 (pr c)) () N
/-- And the partner's barrier unit. -/
def O₀ (c : Dev nD) : CellTallies nD τ sig Unit := O₁ c + tallyAt (barCell (pr c)) () 1

def L (g : GSem nD τ sig) : Finset Unit := if g.1.2 = .tc then {()} else ∅
/-- The barriers at 1, the arrivals at 2, the rest at 0. -/
def lv (g : GSem nD τ sig) (_ : Unit) : ℕ := if g.2 = .reg barS then 1 else if ∃ s, g.2 = .dma (rS s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_r (s : Fin 2) (c : Dev nD) : lv (rCell s c) () = 2 := by
  unfold lv; rw [if_neg (r_ne_bar s), if_pos ⟨s, rfl⟩]

theorem tally_pos {g' g : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

theorem O₁_pos {c : Dev nD} {g : GSem nD τ sig} {u : Unit} (h : 0 < O₁ c g u) : ∃ s, g = rCell s (pr c) := by
  unfold O₁ at h
  rw [Pi.add_apply, Finsupp.add_apply] at h
  rcases Nat.add_pos_iff_pos_or_pos.mp h with h | h
  · exact ⟨1, tally_pos h⟩
  · exact ⟨0, tally_pos h⟩

theorem O₀_pos {c : Dev nD} {g : GSem nD τ sig} {u : Unit} (h : 0 < O₀ c g u) : (∃ s, g = rCell s (pr c)) ∨ g = barCell (pr c) := by
  unfold O₀ at h
  rw [Pi.add_apply, Finsupp.add_apply] at h
  rcases Nat.add_pos_iff_pos_or_pos.mp h with h | h
  · exact .inl (O₁_pos h)
  · exact .inr (tally_pos h)

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨s, rfl⟩ := O₁_pos hg; rw [L_tc]; exact Finset.mem_singleton_self _)
    (fun p hp => by rw [Finset.mem_singleton.mp hp]; exact le_of_eq (lv_bar c))
    (fun g u hg => by obtain ⟨s, rfl⟩ := O₁_pos hg; rw [lv_r]; decide)

/-! ## What the protocol keeps for a device -/

/-- The agreements device `c` uses, under the names `K`: on its own five semaphores, and on the partner's barrier and arrivals. -/
def invs (K : GSem nD τ sig → ℕ) (c : Dev nD) : sProp 𝕄 :=
  iprop(cellInv ER (talkRd kd vd) (K (barCell c)) (barCell c)
    ∗ cellInv ER (talkRd kd vd) (K (sCell 0 c)) (sCell 0 c) ∗ cellInv ER (talkRd kd vd) (K (sCell 1 c)) (sCell 1 c)
    ∗ cellInv ER (talkRd kd vd) (K (rCell 0 c)) (rCell 0 c) ∗ cellInv ER (talkRd kd vd) (K (rCell 1 c)) (rCell 1 c)
    ∗ cellInv ER (talkRd kd vd) (K (barCell (pr c))) (barCell (pr c))
    ∗ cellInv ER (talkRd kd vd) (K (rCell 0 (pr c))) (rCell 0 (pr c)) ∗ cellInv ER (talkRd kd vd) (K (rCell 1 (pr c))) (rCell 1 (pr c)))

instance invs_persistent (K : GSem nD τ sig → ℕ) (c : Dev nD) : BI.Persistent (invs kd vd K c) := by unfold invs; infer_instance

/-- The rights to pay device `c`'s five duties: the partner's barrier and arrivals, the own departures. -/
def duts (c : Dev nD) : sProp 𝕄 :=
  iprop(dutyTok ER (barCell (pr c)) 0 () ∗ dutyTok ER (rCell 0 (pr c)) 0 () ∗ dutyTok ER (rCell 1 (pr c)) 0 ()
    ∗ dutyTok ER (sCell 0 c) 0 () ∗ dutyTok ER (sCell 1 c) 0 ())

/-- From launch: the barrier's position, the rights to open the four scoped semaphores. -/
def ghost (K : GSem nD τ sig → ℕ) (c : Dev nD) : sProp 𝕄 :=
  iprop(invs kd vd K c ∗ atPos ER (barCell c) 0 ∅ 0
    ∗ (openTok ER (sCell 0 c) ∗ openTok ER (sCell 1 c) ∗ openTok ER (rCell 0 c) ∗ openTok ER (rCell 1 c))
    ∗ reached ER (barCell (pr c)) 0 ∗ duts c)

/-- With the four opened. -/
def opened (K : GSem nD τ sig → ℕ) (c : Dev nD) : sProp 𝕄 :=
  iprop(invs kd vd K c ∗ atPos ER (barCell c) 0 ∅ 0
    ∗ (atPos ER (sCell 0 c) 0 ∅ 0 ∗ atPos ER (sCell 1 c) 0 ∅ 0 ∗ atPos ER (rCell 0 c) 0 ∅ 0 ∗ atPos ER (rCell 1 c) 0 ∅ 0)
    ∗ (reached ER (sCell 0 c) 0 ∗ reached ER (sCell 1 c) 0 ∗ reached ER (rCell 0 c) 0 ∗ reached ER (rCell 1 c) 0)
    ∗ reached ER (barCell (pr c)) 0 ∗ duts c)

/-- The credits device `c` waits with. -/
def crds (c : Dev nD) : sProp 𝕄 :=
  iprop(cred (tallyAt (barCell c) () 1) ∗ cred (tallyAt (rCell 0 c) () N) ∗ cred (tallyAt (rCell 1 c) () N))

/-- The counters of the four scoped semaphores, at zero. -/
def zeros (c : Dev nD) : sProp 𝕄 :=
  iprop(semVal (sCell 0 c) 0 ∗ semVal (sCell 1 c) 0 ∗ semVal (rCell 0 c) 0 ∗ semVal (rCell 1 c) 0)

theorem close (κ : ℕ) (g : GSem nD τ sig) :
    iprop(cellInv ER (talkRd kd vd) κ g ∗ atPos ER g (0 + 1) ∅ 0) ⊢ (|={Set.univ}=> semVal g 0 : sProp 𝕄) :=
  Rounds.cell_close ER (talkRd kd vd) (Set.mem_univ κ) id (duties_later kd vd g)

/-! ## The run -/

/-- Before: the protocol's part, the landing buffer at any contents, the staged keys and values. -/
def talkPre (K : GSem nD τ sig → ℕ) (c : Dev nD) (W : Waits sig Unit) : sProp 𝕄 :=
  iprop(opened kd vd K c ∗ crds c ∗ levAts L lv ∗ (∃ f, pts c cc0_scratch0 f) ∗ pts c cc0_stg1_0 (kd c) ∗ pts c cc0_stg2_0 (vd c)
    ∗ owes (c : Thread nD τ) (O₀ c) W)

/-- After: every counter at zero, the partner's keys and values landed, the own ones as they were, nothing owed. -/
def talkPost (c : Dev nD) : sProp 𝕄 :=
  iprop(semVal (barCell c) 0 ∗ zeros c ∗ pts c cc0_scratch0 (got kd vd c) ∗ pts c cc0_stg1_0 (kd c) ∗ pts c cc0_stg2_0 (vd c)
    ∗ ∃ W, owes (c : Thread nD τ) (0 : CellTallies nD τ sig Unit) W)

/-- What a copy of the own keys leaves in half 0 of the partner's landing buffer is what the partner is to get; -/
theorem lands0 (c : Dev nD) (f : LandBuf F) :
    ((halfM 0).view.loc (pr c : Thread nD τ) ↦[(halfM 0).view.set]{fullShare}
        ((halfM 0).view.write (Elt F) f ((kM : Memref sig .tc .vmem S4x16x256x64 .bf16).view.read (Elt F) (kd c)) Finset.univ) : sProp 𝕄)
      ⊢ (talkRd kd vd).payload (rCell 0 (pr c)) 0 () := by
  rw [payload_r0, ← hPts_eq]
  unfold hPts
  refine Entails.of_eq (pointsTo_congr fun i hi => ?_)
  refine (half_written 0 f (kd c) i hi).trans ?_
  show _ = landed (kd (pr (pr c))) (vd (pr (pr c))) i
  have h0 : (i 0).val = 0 := mem_halfSet.mp hi
  rw [pr_pr]; unfold landed; rw [if_pos h0]
/-- of the own values, in half 1. -/
theorem lands1 (c : Dev nD) (f : LandBuf F) :
    ((halfM 1).view.loc (pr c : Thread nD τ) ↦[(halfM 1).view.set]{fullShare}
        ((halfM 1).view.write (Elt F) f ((vM : Memref sig .tc .vmem S4x16x256x64 .bf16).view.read (Elt F) (vd c)) Finset.univ) : sProp 𝕄)
      ⊢ (talkRd kd vd).payload (rCell 1 (pr c)) 0 () := by
  rw [payload_r1, ← hPts_eq]
  unfold hPts
  refine Entails.of_eq (pointsTo_congr fun i hi => ?_)
  refine (half_written 1 f (vd c) i hi).trans ?_
  show _ = landed (kd (pr (pr c))) (vd (pr (pr c))) i
  have h1 : (i 0).val = 1 := mem_halfSet.mp hi
  rw [pr_pr]; unfold landed; rw [if_neg (by rw [h1]; decide)]

/-- The sources are what the departures hand back. -/
theorem departs0 (c : Dev nD) :
    ((kM : Memref sig .tc .vmem S4x16x256x64 .bf16).view.loc (c : Thread nD τ)
        ↦[(kM : Memref sig .tc .vmem S4x16x256x64 .bf16).view.set]{fullShare} kd c : sProp 𝕄)
      ⊢ (talkRd kd vd).payload (sCell 0 c) 0 () := by
  rw [payload_s0, ← k_eq]
theorem departs1 (c : Dev nD) :
    ((vM : Memref sig .tc .vmem S4x16x256x64 .bf16).view.loc (c : Thread nD τ)
        ↦[(vM : Memref sig .tc .vmem S4x16x256x64 .bf16).view.set]{fullShare} vd c : sProp 𝕄)
      ⊢ (talkRd kd vd).payload (sCell 1 c) 0 () := by
  rw [payload_s1, ← v_eq]

/-- The copy of the own keys to the partner, `n` being the partner. -/
theorem wp_send0 (K : GSem nD τ sig → ℕ) (c n : Dev nD) (hn : n = pr c)
    {hsc : (halfM 0 : Memref sig (Dev.tc n : Thread nD τ).2.kind .vmem S4x16x256x64 .bf16).view.ref.isScScratch = false}
    {hsrc : (kM : Memref sig .tc .vmem S4x16x256x64 .bf16).view.WordExact} {hdst : (halfM 0).view.WordExact}
    {hsem : DmaTarget.Typed .vmem (.dma (rS 0)) (.remote (Dev.tc n : Thread nD τ) (halfM 0 : Memref sig .tc .vmem S4x16x256x64 .bf16) (.dma (sS 0)) hsc)}
    {α : Type} {Q : α → sProp 𝕄} {k : PUnit → Prog (TpuEff nD τ sig (Elt F) Λ₀ .tc) α} (f : LandBuf F) (W : Waits sig Unit) :
    iprop(cellInv ER (talkRd kd vd) (K (sCell 0 c)) (sCell 0 c) ∗ cellInv ER (talkRd kd vd) (K (rCell 0 (pr c))) (rCell 0 (pr c))
        ∗ pts c cc0_stg1_0 (kd c) ∗ hPts 0 (pr c) f ∗ owes (c : Thread nD τ) (O₁ c) W
        ∗ dutyTok ER (sCell 0 c) 0 () ∗ reached ER (sCell 0 c) 0
        ∗ dutyTok ER (rCell 0 (pr c)) 0 () ∗ reached ER (rCell 0 (pr c)) 0)
      ⊢ iprop(((cred (tallyAt (sCell 0 c) () N) ∗ owes (c : Thread nD τ) (tallyAt (rCell 1 (pr c)) () N) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma kM (.remote (Dev.tc n : Thread nD τ) (halfM 0) (.dma (sS 0)) hsc) (.dma (rS 0)) hsrc hdst hsem) k) Q) := by
  subst hn
  rw [k_eq, hPts_eq]
  exact Rounds.wp_send_pointsTo 𝒱₀ ER (talkRd kd vd) (c : Thread nD τ) none (c' := (pr c : Thread nD τ)) (src := kM) (dst := halfM 0) (sS := .dma (sS 0)) (sem := .dma (rS 0)) (q := fullShare) (fs := kd c) (κ₁ := K (sCell 0 c)) (κ₂ := K (rCell 0 (pr c)))
    (r₁ := 0) (r₂ := 0) (d₁ := ()) (d₂ := ()) (fd := f)
    (mem_duties kd vd _ (s_talk c 0)) (mem_duties kd vd _ (r_talk (pr c) 0))
    () () N rfl (amount_s kd vd c 0 ()) (amount_r kd vd (pr c) 0 ()) (tallyAt (rCell 1 (pr c)) () N) rfl (W := W)
    (departs0 kd vd c) (lands0 kd vd c f)

/-- The copy of the own values. -/
theorem wp_send1 (K : GSem nD τ sig → ℕ) (c n : Dev nD) (hn : n = pr c)
    {hsc : (halfM 1 : Memref sig (Dev.tc n : Thread nD τ).2.kind .vmem S4x16x256x64 .bf16).view.ref.isScScratch = false}
    {hsrc : (vM : Memref sig .tc .vmem S4x16x256x64 .bf16).view.WordExact} {hdst : (halfM 1).view.WordExact}
    {hsem : DmaTarget.Typed .vmem (.dma (rS 1)) (.remote (Dev.tc n : Thread nD τ) (halfM 1 : Memref sig .tc .vmem S4x16x256x64 .bf16) (.dma (sS 1)) hsc)}
    {α : Type} {Q : α → sProp 𝕄} {k : PUnit → Prog (TpuEff nD τ sig (Elt F) Λ₀ .tc) α} (f : LandBuf F) (W : Waits sig Unit) :
    iprop(cellInv ER (talkRd kd vd) (K (sCell 1 c)) (sCell 1 c) ∗ cellInv ER (talkRd kd vd) (K (rCell 1 (pr c))) (rCell 1 (pr c))
        ∗ pts c cc0_stg2_0 (vd c) ∗ hPts 1 (pr c) f ∗ owes (c : Thread nD τ) (tallyAt (rCell 1 (pr c)) () N) W
        ∗ dutyTok ER (sCell 1 c) 0 () ∗ reached ER (sCell 1 c) 0
        ∗ dutyTok ER (rCell 1 (pr c)) 0 () ∗ reached ER (rCell 1 (pr c)) 0)
      ⊢ iprop(((cred (tallyAt (sCell 1 c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma vM (.remote (Dev.tc n : Thread nD τ) (halfM 1) (.dma (sS 1)) hsc) (.dma (rS 1)) hsrc hdst hsem) k) Q) := by
  subst hn
  rw [v_eq, hPts_eq]
  exact Rounds.wp_send_pointsTo 𝒱₀ ER (talkRd kd vd) (c : Thread nD τ) none (c' := (pr c : Thread nD τ)) (src := vM) (dst := halfM 1) (sS := .dma (sS 1)) (sem := .dma (rS 1)) (q := fullShare) (fs := vd c) (κ₁ := K (sCell 1 c)) (κ₂ := K (rCell 1 (pr c)))
    (r₁ := 0) (r₂ := 0) (d₁ := ()) (d₂ := ()) (fd := f)
    (mem_duties kd vd _ (s_talk c 1)) (mem_duties kd vd _ (r_talk (pr c) 1))
    () () N rfl (amount_s kd vd c 1 ()) (amount_r kd vd (pr c) 1 ()) 0 (by rw [zero_add]) (W := W)
    (departs1 kd vd c) (lands1 kd vd c f)

/-- A wait for a copy on the own semaphore `sm`, owing nothing: what was handed back through it comes, and its position moves on. -/
theorem wp_arrive (K : GSem nD τ sig → ℕ) (c : Dev nD) (sm : DmaSem sig) (hg : IsTalk ((c : Thread nD τ), .dma sm))
    (he : (talkRd kd vd).expect ((c : Thread nD τ), .dma sm) 0 = N)
    {s s' : Shape} {e e' : EltTy} {src : Memref sig .tc .vmem s e} {dst : Memref sig .tc .vmem s' e'} (hN : dst.view.dmaCredit = N)
    {hsrc : src.view.WordExact} {hdst : dst.view.WordExact}
    {α : Type} {Q : α → sProp 𝕄} {k : PUnit → Prog (TpuEff nD τ sig (Elt F) Λ₀ .tc) α} (W : Waits sig Unit) :
    iprop(cellInv ER (talkRd kd vd) (K ((c : Thread nD τ), .dma sm)) ((c : Thread nD τ), .dma sm)
        ∗ cred (tallyAt ((c : Thread nD τ), .dma sm) () N) ∗ owes (c : Thread nD τ) 0 W ∗ atPos ER ((c : Thread nD τ), .dma sm) 0 ∅ 0)
      ⊢ iprop(((owes (c : Thread nD τ) 0 (insert (SemLoc.dma sm, ()) W) ∗ atPos ER ((c : Thread nD τ), .dma sm) (0 + 1) ∅ 0
              ∗ (talkRd kd vd).payload ((c : Thread nD τ), .dma sm) 0 ())
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  iintro ⟨#HI, Hc, HO, Hat⟩ Hk
  iapply (Rounds.wp_wait_rest_token 𝒱₀ ER (talkRd kd vd) (c : Thread nD τ) none (κ := K ((c : Thread nD τ), .dma sm))
      (wpE_waitDma2_eq 𝒱₀ (c : Thread nD τ) none Set.univ) (Set.mem_univ _) () (O := 0) (W := W) (R := 0) (m := 0) (T := ∅)
      (by rw [Nat.zero_add, he, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_of kd vd _ hg)) $$ Hpay
  iapply Hk
  isplitl [HO]; · iexact HO
  isplitl [Hat]; · iexact Hat
  iexact Hp

set_option maxHeartbeats 800000 in
/-- The exchange. -/
theorem wp_talk (K : GSem nD τ sig → ℕ) (c : Dev nD) (W : Waits sig Unit) (Kt : PUnit → sProp 𝕄) :
    iprop(talkPre kd vd K c W ∗ (talkPost kd vd c -∗ Kt ⟨⟩))
      ⊢ wp frame (wpE (defs₀ (F := F)) 𝒱₀ (c : Thread nD τ) none) Set.univ (talk (F := F)) Kt := by
  unfold talk
  simp only [semSignalWord, semWaitWord, Prog.lift, Prog.bind_op, Prog.bind_ret, Prog.pure_eq_ret, wp_deviceId]
  unfold talkPre opened invs duts crds
  iintro ⟨⟨⟨⟨#HIb, #HIs0, #HIs1, #HIr0, #HIr1, #HIbP, #HIr0P, #HIr1P⟩, HatB, ⟨HatS0, HatS1, HatR0, HatR1⟩, ⟨#HrS0, #HrS1, #HrR0, #HrR1⟩, #HrP,
      HtB, HtR0, HtR1, HtS0, HtS1⟩, ⟨HcB, HcR0, HcR1⟩, #Hlev, ⟨%f, Hx⟩, Hkk, Hv, HO⟩, Hk⟩
  simp only [dev1_eq c]
  ihave Hx' := (halves c f).1 $$ Hx
  icases Hx' with ⟨Hx0, Hx1⟩
  -- signal the partner's barrier: the own landing buffer goes to it
  iapply (Rounds.wp_signal 𝒱₀ ER (talkRd kd vd) (c : Thread nD τ) none (dst := (pr c : Thread nD τ)) (sem := barS) (r := 0) (d := ()) (κ := K (barCell (pr c)))
      (mem_duties kd vd _ (bar_talk (pr c))) ((amount_bar kd vd (pr c) ()).trans (by decide)) () (O₁ c) rfl)
    $$ [HO HtB Hx0 Hx1]
  · isplitr; · iexact HIbP
    isplitl [HO]; · iexact HO
    isplitl [HtB]; · iexact HtB
    isplitl [Hx0 Hx1]
    · rw [payload_bar]; unfold barPay; rw [pr_pr]
      isplitl [Hx0]; · iexists f; iexact Hx0
      isplitl [Hx1]; · iexists f; iexact Hx1
      isplitr; · iexact HrR0
      iexact HrR1
    · iexact HrP
  iintro HO
  -- wait on the own barrier: the partner's landing buffer comes
  iapply (Rounds.wp_wait_rest_token 𝒱₀ ER (talkRd kd vd) (c : Thread nD τ) none (κ := K (barCell c))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq ((rest_of kd vd _ (bar_talk c)).trans (payload_bar kd vd c))) $$ Hpay
  unfold barPay
  icases Hp with ⟨⟨%f0, Hp0⟩, ⟨%f1, Hp1⟩, #Hq0, #Hq1⟩
  -- the two copies
  iapply (wp_send0 kd vd K c _ (dev2_eq c) f0 (insert (SemLoc.reg barS, ()) W)) $$ [Hkk Hp0 HO HtS0 HtR0]
  · isplitr; · iexact HIs0
    isplitr; · iexact HIr0P
    isplitl [Hkk]; · iexact Hkk
    isplitl [Hp0]; · iexact Hp0
    isplitl [HO]; · iexact HO
    isplitl [HtS0]; · iexact HtS0
    isplitr; · iexact HrS0
    isplitl [HtR0]; · iexact HtR0
    iexact Hq0
  iintro ⟨HcS0, HO⟩
  iapply (wp_send1 kd vd K c _ (dev3_eq c) f1 (insert (SemLoc.reg barS, ()) W)) $$ [Hv Hp1 HO HtS1 HtR1]
  · isplitr; · iexact HIs1
    isplitr; · iexact HIr1P
    isplitl [Hv]; · iexact Hv
    isplitl [Hp1]; · iexact Hp1
    isplitl [HO]; · iexact HO
    isplitl [HtS1]; · iexact HtS1
    isplitr; · iexact HrS1
    isplitl [HtR1]; · iexact HtR1
    iexact Hq1
  iintro ⟨HcS1, HO⟩
  -- the four waits
  iapply (wp_arrive kd vd K c (sS 0) (s_talk c 0) (expect_s kd vd c 0) credit_k _) $$ [HcS0 HO HatS0]
  · isplitr; · iexact HIs0
    isplitl [HcS0]; · iexact HcS0
    isplitl [HO] <;> iassumption
  iintro ⟨HO, HatS0, Hp⟩
  ihave Hkk := (Entails.of_eq (payload_s0 kd vd c)) $$ Hp
  iapply (wp_arrive kd vd K c (rS 0) (r_talk c 0) (expect_r kd vd c 0) (credit_half 0) _) $$ [HcR0 HO HatR0]
  · isplitr; · iexact HIr0
    isplitl [HcR0]; · iexact HcR0
    isplitl [HO] <;> iassumption
  iintro ⟨HO, HatR0, Hp⟩
  ihave Hx0 := (Entails.of_eq (payload_r0 kd vd c)) $$ Hp
  iapply (wp_arrive kd vd K c (sS 1) (s_talk c 1) (expect_s kd vd c 1) credit_v _) $$ [HcS1 HO HatS1]
  · isplitr; · iexact HIs1
    isplitl [HcS1]; · iexact HcS1
    isplitl [HO] <;> iassumption
  iintro ⟨HO, HatS1, Hp⟩
  ihave Hv := (Entails.of_eq (payload_s1 kd vd c)) $$ Hp
  iapply (wp_arrive kd vd K c (rS 1) (r_talk c 1) (expect_r kd vd c 1) (credit_half 1) _) $$ [HcR1 HO HatR1]
  · isplitr; · iexact HIr1
    isplitl [HcR1]; · iexact HcR1
    isplitl [HO] <;> iassumption
  iintro ⟨HO, HatR1, Hp⟩
  ihave Hx1 := (Entails.of_eq (payload_r1 kd vd c)) $$ Hp
  -- close all five
  rw [wp_ret]
  imod (close kd vd (K (barCell c)) (barCell c)) $$ [HatB] with Hb0
  · isplitr; · iexact HIb
    iexact HatB
  imod (close kd vd (K (sCell 0 c)) (sCell 0 c)) $$ [HatS0] with Hs0
  · isplitr; · iexact HIs0
    iexact HatS0
  imod (close kd vd (K (sCell 1 c)) (sCell 1 c)) $$ [HatS1] with Hs1
  · isplitr; · iexact HIs1
    iexact HatS1
  imod (close kd vd (K (rCell 0 c)) (rCell 0 c)) $$ [HatR0] with Hr0
  · isplitr; · iexact HIr0
    iexact HatR0
  imod (close kd vd (K (rCell 1 c)) (rCell 1 c)) $$ [HatR1] with Hr1
  · isplitr; · iexact HIr1
    iexact HatR1
  imodintro
  iapply Hk
  unfold talkPost zeros
  isplitl [Hb0]; · iexact Hb0
  isplitl [Hs0 Hs1 Hr0 Hr1]
  · isplitl [Hs0]; · iexact Hs0
    isplitl [Hs1]; · iexact Hs1
    isplitl [Hr0] <;> iassumption
  isplitl [Hx0 Hx1]
  · iapply (halves c (got kd vd c)).2
    isplitl [Hx0] <;> iassumption
  isplitl [Hkk]; · iexact Hkk
  isplitl [Hv]; · iexact Hv
  iexists _; iexact HO

end Cert.KernelIdeal.Attn

end
-- ==== Proof.Body.lean ====
/-
  The kernel's one call on a device: what its buffers hold before and after, and the run of its body between.
-/
module

public import proofs.«01_k».proof.Proof.Talk
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What the buffers hold -/

/-- At launch; -/
def V₀ (c : Dev nD) : Valuation τ sig (Elt F) := fun b => m (c, b)
/-- once the three arguments are transposed; -/
def V₁ (c : Dev nD) : Valuation τ sig (Elt F) := StableHlo.after hostOps0 (V₀ m c)

/-- the queries, keys and values of a device, transposed; -/
def qd (c : Dev nD) : InBuf F := V₁ m c (Proc.devRef .tc main_v1)
def kd (c : Dev nD) : InBuf F := V₁ m c (Proc.devRef .tc main_v2)
def vd (c : Dev nD) : InBuf F := V₁ m c (Proc.devRef .tc main_v3)
/-- what its landing buffer and its result's hold after the call; -/
def land (c : Dev nD) : LandBuf F := got (kd m) (vd m) c
def out (c : Dev nD) : OutBuf F := outBuf (qd m c) (kd m c) (vd m c) (land m c)

/-- after the call; -/
def V₂ (c : Dev nD) : Valuation τ sig (Elt F) := Function.update (V₁ m c) (Proc.devRef .tc main_v4) (out m c)
/-- and once the result is transposed. -/
def V₃ (c : Dev nD) : Valuation τ sig (Elt F) := StableHlo.after hostOps1 (V₂ m c)

theorem V₂_v4 (c : Dev nD) : V₂ m c (Proc.devRef .tc main_v4) = out m c := Function.update_self ..
theorem V₂_of_ne (c : Dev nD) (b : DevRef τ sig) (h : b ≠ Proc.devRef .tc main_v4) : V₂ m c b = V₁ m c b := Function.update_of_ne h ..

/-! ## The call's data -/

/-- Before the body's one point: the protocol's opened part, the credits, the levels, the landing buffer at any contents;
    after: the counters at zero, and the landing buffer again. -/
def X (c : Dev nD) : sProp 𝕄 :=
  iprop((∃ K, opened (kd m) (vd m) K c) ∗ crds c ∗ levAts L lv ∗ (∃ f, pts c cc0_scratch0 f) ∗ ∃ r, prngReg c r)
def Y (c : Dev nD) : sProp 𝕄 :=
  iprop(semVal (barCell c) 0 ∗ zeros c ∗ (∃ f, pts c cc0_scratch0 f) ∗ ∃ r, prngReg c r)

def dat (c : Dev nD) : Dat τ (Elt F) Unit ℕ UU ℕ cfg0 c where
  A w := V₁ m c (Proc.devRef .tc (Pipeline.arrRef spec0 w))
  after w _ := match w with | 0 => qd m c | 1 => kd m c | 2 => vd m c | 3 => out m c
  Φ t := if t.val = 0 then X m c else Y c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem share_full (c : Dev nD) (w : Fin cfg0.W) : (dat m c).share w = fullShare := by unfold Dat.share; split <;> rfl

theorem last_val : (Fin.last cfg0.N).val ≠ 0 := by rw [Fin.val_last, show cfg0.N = 1 from N_0]; decide
theorem owed_zero (c : Dev nD) : (dat m c).owed 0 = O₀ c := by
  show (if (0 : Fin (cfg0.N + 1)).val = 0 then O₀ c else 0) = O₀ c; exact if_pos rfl
theorem owed_first (c : Dev nD) : (dat m c).owed (Fin.castSucc (t0_0 : Fin cfg0.N)) = O₀ c := by
  show (if (Fin.castSucc (t0_0 : Fin cfg0.N)).val = 0 then O₀ c else 0) = O₀ c; exact if_pos rfl
theorem owed_last (c : Dev nD) : (dat m c).owed (Fin.last _) = 0 := by
  show (if (Fin.last cfg0.N).val = 0 then O₀ c else 0) = 0; exact if_neg last_val
theorem owed_succ (c : Dev nD) : (dat m c).owed (Fin.succ (t0_0 : Fin cfg0.N)) = 0 := by
  show (if (Fin.succ (t0_0 : Fin cfg0.N)).val = 0 then O₀ c else 0) = 0; exact if_neg (Nat.succ_ne_zero _)
theorem Φ_zero (c : Dev nD) : (dat m c).Φ 0 = X m c := by
  show (if (0 : Fin (cfg0.N + 1)).val = 0 then X m c else Y c) = X m c; exact if_pos rfl
theorem Φ_first (c : Dev nD) : (dat m c).Φ (Fin.castSucc (t0_0 : Fin cfg0.N)) = X m c := by
  show (if (Fin.castSucc (t0_0 : Fin cfg0.N)).val = 0 then X m c else Y c) = X m c; exact if_pos rfl
theorem Φ_last (c : Dev nD) : (dat m c).Φ (Fin.last _) = Y c := by
  show (if (Fin.last cfg0.N).val = 0 then X m c else Y c) = Y c; exact if_neg last_val
theorem Φ_succ (c : Dev nD) : (dat m c).Φ (Fin.succ (t0_0 : Fin cfg0.N)) = Y c := by
  show (if (Fin.succ (t0_0 : Fin cfg0.N)).val = 0 then X m c else Y c) = Y c; exact if_neg (Nat.succ_ne_zero _)

/-- Every window moves its whole array. -/
theorem read_whole (w : Fin cfg0.W) (j : ((cfg0.win w).xblock (cfg0.grid.coords t0_0)).Idx) (a : Fin (cfg0.win w).shape.rank)
    (h : (cfg0.win w).index (t0_0 : Fin cfg0.N) a = 0) :
    (((cfg0.win w).rect (t0_0 : Fin cfg0.N)).emb j a).val = (j a).val :=
  Pipeline.Window.rect_emb_val_of_index_zero _ _ _ h j

theorem before_q (c : Dev nD) (d) : (dat m c).before 0 (t0_0 : Fin cfg0.N) d = qd m c := by
  unfold Dat.before; rw [if_pos (fetch0_0 _)]
  funext j
  show V₁ m c (Proc.devRef .tc main_v1) (((cfg0.win 0).rect (t0_0 : Fin cfg0.N)).emb j) = V₁ m c (Proc.devRef .tc main_v1) j
  exact congrArg _ (funext fun a => Fin.ext (read_whole 0 j a rfl))
theorem before_k (c : Dev nD) (d) : (dat m c).before 1 (t0_0 : Fin cfg0.N) d = kd m c := by
  unfold Dat.before; rw [if_pos (fetch0_1 _)]
  funext j
  show V₁ m c (Proc.devRef .tc main_v2) (((cfg0.win 1).rect (t0_0 : Fin cfg0.N)).emb j) = V₁ m c (Proc.devRef .tc main_v2) j
  exact congrArg _ (funext fun a => Fin.ext (read_whole 1 j a rfl))
theorem before_v (c : Dev nD) (d) : (dat m c).before 2 (t0_0 : Fin cfg0.N) d = vd m c := by
  unfold Dat.before; rw [if_pos (fetch0_2 _)]
  funext j
  show V₁ m c (Proc.devRef .tc main_v3) (((cfg0.win 2).rect (t0_0 : Fin cfg0.N)).emb j) = V₁ m c (Proc.devRef .tc main_v3) j
  exact congrArg _ (funext fun a => Fin.ext (read_whole 2 j a rfl))

/-- What the result's array holds when the call is over. -/
theorem arr_out (c : Dev nD) : (dat m c).arrAt 3 cfg0.N = out m c := by
  refine (dat m c).arrAt_eq_of_after_last 3 t0_0 (by decide +kernel) _ fun j => ?_
  rfl

/-! ## The body's run -/

set_option maxRecDepth 4000 in
theorem owns_whole_eq (c : Dev nD) (b : Ref sig .tc) (w : b.ty.Contents (Elt F)) :
    (owns (c : Thread nD τ) (Memref.whole b) fullShare w : sProp 𝕄) = iprop(∃ f, ⌜f = w⌝ ∗ pts c b f) := by
  unfold owns; simp only [Memref.view_whole, View.read_whole, View.set_whole]

/-- A staging buffer held at contents `w`. -/
abbrev stg (c : Dev nD) (b : Ref sig .tc) (w : b.ty.Contents (Elt F)) : sProp 𝕄 := iprop(∃ f, ⌜f = w⌝ ∗ pts c b f)

def bodyPre (c : Dev nD) : sProp 𝕄 :=
  iprop((dat m c).Φ (Fin.castSucc (t0_0 : Fin cfg0.N)) ∗ (dat m c).owesAt () (Fin.castSucc (t0_0 : Fin cfg0.N))
    ∗ (∃ d, stg c cc0_stg0_0 ((dat m c).before 0 (t0_0 : Fin cfg0.N) d)) ∗ (∃ d, stg c cc0_stg1_0 ((dat m c).before 1 (t0_0 : Fin cfg0.N) d))
    ∗ (∃ d, stg c cc0_stg2_0 ((dat m c).before 2 (t0_0 : Fin cfg0.N) d)) ∗ (∃ d, stg c cc0_stg3_0 ((dat m c).before 3 (t0_0 : Fin cfg0.N) d)))
def bodyPost (c : Dev nD) : sProp 𝕄 :=
  iprop((dat m c).Φ (Fin.succ (t0_0 : Fin cfg0.N)) ∗ (dat m c).owesAt () (Fin.succ (t0_0 : Fin cfg0.N))
    ∗ stg c cc0_stg0_0 (qd m c) ∗ stg c cc0_stg1_0 (kd m c) ∗ stg c cc0_stg2_0 (vd m c) ∗ stg c cc0_stg3_0 (out m c))

theorem owes_in (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W; isplitr; · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

theorem wp_body (c : Dev nD) :
    bodyPre m c ⊢ wp frame (wpE (defs₀ (F := F)) 𝒱₀ (c : Thread nD τ) none) Set.univ (body (F := F)) (fun _ => bodyPost m c) := by
  rw [body_eq, wp_bind]
  unfold bodyPre bodyPost
  rw [Φ_first, Φ_succ]
  unfold X Y
  iintro ⟨⟨⟨%K, Hop⟩, Hcr, Hlev, Hx, Hreg⟩, HO, ⟨%d0, %g0, %h0, Hq⟩, ⟨%d1, %g1, %h1, Hk⟩, ⟨%d2, %g2, %h2, Hv⟩, ⟨%d3, %g3, -, Ho⟩⟩
  rw [before_q] at h0; rw [before_k] at h1; rw [before_v] at h2
  subst h0 h1 h2
  ihave HO' := (owes_out m c _ (O₀ c) (owed_first m c)) $$ HO
  icases HO' with ⟨%W, HO⟩
  iapply (wp_talk (kd m) (vd m) K c W _)
  isplitl [Hop Hcr Hlev Hx Hk Hv HO]
  · unfold talkPre
    isplitl [Hop]; · iexact Hop
    isplitl [Hcr]; · iexact Hcr
    isplitl [Hlev]; · iexact Hlev
    isplitl [Hx]; · iexact Hx
    isplitl [Hk]; · iexact Hk
    isplitl [Hv]; · iexact Hv
    iexact HO
  unfold talkPost
  iintro ⟨Hb, Hz, Hx, Hk, Hv, HO⟩
  iapply (wp_heads c (qd m c) (kd m c) (vd m c) (land m c) 64 g3)
  rw [stores_all]
  unfold five
  isplitl [Hq Hk Hv Hx Ho]
  · isplitl [Hq]; · iexact Hq
    isplitl [Hk]; · iexact Hk
    isplitl [Hv]; · iexact Hv
    isplitl [Hx]; · iexact Hx
    iexact Ho
  iintro ⟨Hq, Hk, Hv, Hx, Ho⟩
  isplitl [Hb Hz Hx Hreg]
  · isplitl [Hb]; · iexact Hb
    isplitl [Hz]; · iexact Hz
    isplitl [Hx]; · iexists _; iexact Hx
    iexact Hreg
  isplitl [HO]
  · iapply (owes_in m c _ 0 (owed_succ m c)); iexact HO
  isplitl [Hq]
  · iexists _; isplitr; · ipureintro; rfl
    iexact Hq
  isplitl [Hk]
  · iexists _; isplitr; · ipureintro; rfl
    iexact Hk
  isplitl [Hv]
  · iexists _; isplitr; · ipureintro; rfl
    iexact Hv
  iexists _; isplitr; · ipureintro; rfl
  iexact Ho

set_option maxRecDepth 100000 in
theorem body_obligation (c : Dev nD) : BodyObligation (dat m c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (body (F := F)) (fun _ => bodyPost m c)
  exact wp_body m c

end Cert.KernelIdeal.Attn

end
-- ==== Proof.Launch.lean ====
/-
  The whole run on the 32 devices: the three transposes, the call, the transpose of the result; what the launch hands
  out and what the end holds.
-/
module

public import proofs.«01_k».proof.Proof.Body

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev EP : Emb (UR sig nD τ) (MT nD τ sig Unit (Elt F) ℕ UU ℕ) := embL

/-! ## The buffers and the semaphores as conjunctions -/

/-- The buffers that outlive the call; those of them the call's windows move; the others. -/
def bufs : Finset (DevRef τ sig) := (StableHlo.tcRefs τ sig).filter fun b => ¬ b.isScoped
abbrev arrs : Finset (DevRef τ sig) := Pipeline.arrRefs (τ := τ) spec0
theorem arrs_sub : arrs ⊆ bufs := by decide
abbrev rest : Finset (DevRef τ sig) := bufs \ arrs

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- All eight, one by one. -/
theorem bufs_eq (c : Dev nD) (W : Valuation τ sig (Elt F)) : (StableHlo.held (c : Thread nD τ) bufs W : sProp 𝕄)
    = iprop(pts c main_arg0 (W (Proc.devRef .tc main_arg0)) ∗ pts c main_arg1 (W (Proc.devRef .tc main_arg1)) ∗ pts c main_arg2 (W (Proc.devRef .tc main_arg2))
      ∗ pts c main_v5 (W (Proc.devRef .tc main_v5)) ∗ pts c main_v1 (W (Proc.devRef .tc main_v1)) ∗ pts c main_v2 (W (Proc.devRef .tc main_v2))
      ∗ pts c main_v3 (W (Proc.devRef .tc main_v3)) ∗ pts c main_v4 (W (Proc.devRef .tc main_v4))) := by
  unfold StableHlo.held
  rw [bigSep_eq_bigSepL_of_eq [Proc.devRef .tc main_arg0, Proc.devRef .tc main_arg1, Proc.devRef .tc main_arg2, Proc.devRef .tc main_v5,
    Proc.devRef .tc main_v1, Proc.devRef .tc main_v2, Proc.devRef .tc main_v3, Proc.devRef .tc main_v4] (by decide) (by decide)]
  rfl

/-- The four semaphores the call opens and closes. -/
def osem : Fin 4 → SemLoc sig := fun | 0 => .dma (sS 0) | 1 => .dma (sS 1) | 2 => .dma (rS 0) | 3 => .dma (rS 1)

theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem ownSems_eq (c : Dev nD) : (Pipeline.ownSems0 osem c : sProp 𝕄) = zeros c :=
  bigSep_four (fun k : Fin 4 => (semVal ((c : Thread nD τ), osem k) 0 : sProp 𝕄))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-! ## The three segments -/

/-- What a device keeps beside its buffers until the call: its part of the protocol, its credits, the generator's register,
    and the debt it enters with. -/
def kept (c : Dev nD) : sProp 𝕄 := iprop((∃ K, ghost (kd m) (vd m) K c) ∗ crds c)
def R (c : Dev nD) : sProp 𝕄 := iprop(kept m c ∗ (∃ r, prngReg c r) ∗ ∃ W, owes (c : Thread nD τ) (O₀ c) W)
/-- And after it. -/
def R' (c : Dev nD) : sProp 𝕄 := iprop(semVal (barCell c) 0 ∗ ∃ W, owes (c : Thread nD τ) (0 : CellTallies nD τ sig Unit) W)

/-- What enters the body. -/
def entered (c : Dev nD) : sProp 𝕄 := iprop((∃ K, opened (kd m) (vd m) K c) ∗ crds c ∗ levAts L lv)
def left (c : Dev nD) : sProp 𝕄 := semVal (barCell c) 0

theorem open_one (κ : ℕ) (g : GSem nD τ sig) : iprop(cellInv ER (talkRd (kd m) (vd m)) κ g ∗ openTok ER g ∗ semVal g 0)
    ⊢ (|={Set.univ}=> (atPos ER g 0 ∅ 0 ∗ reached ER g 0) : sProp 𝕄) :=
  Rounds.cell_open ER (talkRd (kd m) (vd m)) (Set.mem_univ κ)

theorem hopen (c : Dev nD) : iprop(kept m c ∗ Pipeline.ownSems0 osem c ∗ levAts L lv) ⊢ (|={Set.univ}=> entered m c : sProp 𝕄) := by
  rw [ownSems_eq]
  unfold kept entered zeros ghost opened
  iintro ⟨⟨⟨%K, #HI, HatB, ⟨Ho0, Ho1, Ho2, Ho3⟩, #HrP, Hd⟩, Hcr⟩, ⟨H0, H1, H2, H3⟩, #Hlev⟩
  ihave #HI' := (show invs (kd m) (vd m) K c ⊢ iprop(cellInv ER (talkRd (kd m) (vd m)) (K (sCell 0 c)) (sCell 0 c)
      ∗ cellInv ER (talkRd (kd m) (vd m)) (K (sCell 1 c)) (sCell 1 c) ∗ cellInv ER (talkRd (kd m) (vd m)) (K (rCell 0 c)) (rCell 0 c)
      ∗ cellInv ER (talkRd (kd m) (vd m)) (K (rCell 1 c)) (rCell 1 c)) from by
    unfold invs
    iintro ⟨-, #A, #B, #C, #D, -⟩
    isplitr; · iexact A
    isplitr; · iexact B
    isplitr; · iexact C
    iexact D) $$ HI
  icases HI' with ⟨#A, #B, #C, #D⟩
  imod (open_one m (K (sCell 0 c)) (sCell 0 c)) $$ [Ho0 H0] with ⟨Ha0, #Hr0⟩
  · isplitr; · iexact A
    isplitl [Ho0] <;> iassumption
  imod (open_one m (K (sCell 1 c)) (sCell 1 c)) $$ [Ho1 H1] with ⟨Ha1, #Hr1⟩
  · isplitr; · iexact B
    isplitl [Ho1] <;> iassumption
  imod (open_one m (K (rCell 0 c)) (rCell 0 c)) $$ [Ho2 H2] with ⟨Ha2, #Hr2⟩
  · isplitr; · iexact C
    isplitl [Ho2] <;> iassumption
  imod (open_one m (K (rCell 1 c)) (rCell 1 c)) $$ [Ho3 H3] with ⟨Ha3, #Hr3⟩
  · isplitr; · iexact D
    isplitl [Ho3] <;> iassumption
  imodintro
  isplitr [Hcr]
  · iexists K
    isplitr; · iexact HI
    isplitl [HatB]; · iexact HatB
    isplitl [Ha0 Ha1 Ha2 Ha3]
    · isplitl [Ha0]; · iexact Ha0
      isplitl [Ha1]; · iexact Ha1
      isplitl [Ha2] <;> iassumption
    isplitr
    · isplitr; · iexact Hr0
      isplitr; · iexact Hr1
      isplitr; · iexact Hr2
      iexact Hr3
    isplitr; · iexact HrP
    iexact Hd
  isplitl [Hcr]; · iexact Hcr
  iexact Hlev

theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem held_none (c : Dev nD) (W : Valuation τ sig (Elt F)) : (StableHlo.held (c.tc : Thread nD τ) ∅ W : sProp 𝕄) = BI.emp :=
  BI.bigSep_empty

theorem hin (c : Dev nD) : iprop(Pipeline.scopedRest (Pipeline.pin (pcfgs (F := F)) adm 0).spec c ∗ (∃ r, prngReg c r)
      ∗ StableHlo.held (c.tc : Thread nD τ) ∅ (V₁ m c) ∗ entered m c) ⊢ (pdats m 0 c).Φ 0 := by
  rw [show (pdats m 0 c).Φ 0 = X m c from Φ_zero m c, held_none,
    show (Pipeline.scopedRest (Pipeline.pin (pcfgs (F := F)) adm 0).spec c : sProp 𝕄) = iprop(∃ f, pts c cc0_scratch0 f) from Gen.scopedRest0_eq c]
  unfold X entered
  iintro ⟨Hs, Hp, -, HK, Hcr, Hlev⟩
  isplitl [HK]; · iexact HK
  isplitl [Hcr]; · iexact Hcr
  isplitl [Hlev]; · iexact Hlev
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ left c) := by
  rw [show (pdats m 0 c).Φ (Fin.last _) = Y c from Φ_last m c, held_none, ownSems_eq,
    show (Pipeline.scopedRest (Pipeline.pin (pcfgs (F := F)) adm 0).spec c : sProp 𝕄) = iprop(∃ f, pts c cc0_scratch0 f) from Gen.scopedRest0_eq c]
  unfold Y left
  iintro ⟨Hb, Hz, Hs, Hp⟩
  isplitl [Hs]; · iexact Hs
  isplitl [Hp]; · iexact Hp
  isplitr; · iempintro
  isplitl [Hz]; · iexact Hz
  iexact Hb

/-- The call's arrays before and after. -/
theorem arr_before (c : Dev nD) (w : Fin cfg0.W) : (dat m c).arrAt w 0 = V₁ m c (Proc.devRef .tc (Pipeline.arrRef spec0 w)) := rfl
theorem arr_after (c : Dev nD) (w : Fin cfg0.W) : (dat m c).arrAt w cfg0.N = V₂ m c (Proc.devRef .tc (Pipeline.arrRef spec0 w)) := by
  have hin (w : Fin cfg0.W) (ho : (cfg0.win w).isOut = false) (hne : Proc.devRef .tc (Pipeline.arrRef spec0 w) ≠ (Proc.devRef .tc main_v4 : DevRef τ sig)) :
      (dat m c).arrAt w cfg0.N = V₂ m c (Proc.devRef .tc (Pipeline.arrRef spec0 w)) :=
    ((dat m c).arrAt_in w ho _).trans (V₂_of_ne m c _ hne).symm
  match w with
  | 0 => exact hin 0 rfl (by decide)
  | 1 => exact hin 1 rfl (by decide)
  | 2 => exact hin 2 rfl (by decide)
  | 3 => exact (arr_out m c).trans (V₂_v4 m c).symm

/-- The semaphores of the windows' transfers sit below all that is owed. -/
theorem lv_stage (c : Dev nD) (w : Fin (Pipeline.pin (pcfgs (F := F)) adm 0).W) (s : Fin ((Pipeline.pin (pcfgs (F := F)) adm 0).win w).nbuf) :
    lv (c.tc, SemLoc.dma (((Pipeline.pin (pcfgs (F := F)) adm 0).win w).sem s)) () ≤ 0 :=
  (by decide : ∀ (w : Fin 4) (s : Fin (win0 w).nbuf),
    (if (SemLoc.dma ((win0 w).sem s) : SemLoc sig) = .reg barS then 1 else if ∃ s', (SemLoc.dma ((win0 w).sem s) : SemLoc sig) = .dma (rS s') then 2 else 0) ≤ 0) w s
theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · rcases O₀_pos h with ⟨s, rfl⟩ | rfl
    · exact ⟨by rw [L_tc]; exact Finset.mem_singleton_self _, by rw [lv_r]; decide⟩
    · exact ⟨by rw [L_tc]; exact Finset.mem_singleton_self _, by rw [lv_bar]; decide⟩
  · exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem sub_bufs (ops : List (HloOp τ sig (Elt F))) (h : ops.Forall fun op => op.bufs ⊆ StableHlo.tcRefs τ sig) :
    ∀ op ∈ ops, op.bufs ⊆ bufs := fun op hop => Pipeline.sub_ucRefs op (List.forall_iff_forall_mem.mp h op hop)

/-- The transposes before the call; -/
def seg0 : ℍ := Pipeline.HostSeg.ofOps _ _ _ _ _ bufs hostOps0 (sub_bufs _ hostOps0_sub)
  (fun op hop => List.forall_iff_forall_mem.mp hostOps0_fresh op hop) (V₀ m) (R m)

set_option backward.isDefEq.respectTransparency.types false in
/-- the call; -/
def reg : ℝ𝕊 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body_obligation m c).loose)
    (fun _ => 0) O₀ (fun c => (owed_zero m c).trans (zero_add _).symm) (owed_last m) (fun _ => rfl) (share_full m)
    (V₁ m) (V₂ m) (fun c b hb => V₂_of_ne m c b fun h => by
      subst h; exact absurd hb (by decide))
    (kept m) left (entered m) left (hopen m) (hin m) (hout m)
    (fun c => by iintro H; imodintro; iexact H)
    (fun _ => 0)
    ⟨fun c w s => by rw [L_tc]; exact Finset.mem_singleton_self _, lv_stage, cutD m⟩
    (fun _ => iprop(emp))
    (arr_before m) (arr_after m)

/-- the transpose after it. -/
def seg1 : ℍ := Pipeline.HostSeg.ofOps _ _ _ _ _ bufs hostOps1 (sub_bufs _ hostOps1_sub)
  (fun op hop => List.forall_iff_forall_mem.mp hostOps1_fresh op hop) (V₂ m) R'

end Cert.KernelIdeal.Attn

end
-- ==== Proof.Run.lean ====
/-
  From launch to the end: the agreements made and dealt out, the three segments run, and what memory and semaphores hold then.
-/
module

public import proofs.«01_k».proof.Proof.Launch

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A resource of every device -/

theorem apart (Φ Ψ : Dev nD → sProp 𝕄) :
    (bigSep Finset.univ fun c => iprop(Φ c ∗ Ψ c)) ⊢ iprop(bigSep Finset.univ Φ ∗ bigSep Finset.univ Ψ) := Entails.of_eq (bigSep_sep' _ _ _)
theorem together (Φ Ψ : Dev nD → sProp 𝕄) :
    iprop(bigSep Finset.univ Φ ∗ bigSep Finset.univ Ψ) ⊢ (bigSep Finset.univ fun c => iprop(Φ c ∗ Ψ c)) := Entails.of_eq (bigSep_sep' _ _ _).symm
/-- What persists is had by each device. -/
theorem each_with (A : sProp 𝕄) [BI.Persistent A] (Φ Ψ : Dev nD → sProp 𝕄) (h : ∀ c, iprop(A ∗ Φ c) ⊢ Ψ c) :
    iprop(A ∗ bigSep Finset.univ Φ) ⊢ bigSep Finset.univ Ψ :=
  (sep_mono_left (BI.bigSep_of_persistent Finset.univ A)).trans ((together _ _).trans (bigSep_mono fun c _ => h c))

/-! ## The segments meet -/

/-- The buffers split into the call's arrays and the others. -/
theorem bufs_split (c : Dev nD) (W : Valuation τ sig (Elt F)) : (StableHlo.held (c.tc : Thread nD τ) bufs W : sProp 𝕄)
    = iprop(StableHlo.held (c.tc : Thread nD τ) arrs W ∗ StableHlo.held (c.tc : Thread nD τ) rest W) :=
  StableHlo.held_sub_split (c.tc : Thread nD τ) arrs_sub W

theorem reg_pre (c : Dev nD) : iprop(StableHlo.held (c : Thread nD τ) bufs (V₁ m c) ∗ R m c) ⊢ (reg m).pre c := by
  show _ ⊢ iprop(StableHlo.held (c.tc : Thread nD τ) arrs (V₁ m c) ∗ (∃ r, prngReg c r)
    ∗ (StableHlo.held (c.tc : Thread nD τ) rest (V₁ m c) ∗ emp) ∗ kept m c ∗ ∃ Wd, owes (c : Thread nD τ) (0 + O₀ c) Wd)
  rw [bufs_split, zero_add]
  unfold R
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

theorem reg_post (c : Dev nD) : (reg m).post c ⊢ iprop(StableHlo.held (c : Thread nD τ) bufs (V₂ m c) ∗ R' c) := by
  show iprop(StableHlo.held (c.tc : Thread nD τ) arrs (V₂ m c) ∗ (∃ r, prngReg c r)
    ∗ (StableHlo.held (c.tc : Thread nD τ) rest (V₂ m c) ∗ emp) ∗ left c ∗ ∃ Wd, owes (c : Thread nD τ) (0 : CellTallies nD τ sig Unit) Wd) ⊢ _
  rw [bufs_split]
  unfold R' left
  iintro ⟨Ha, -, ⟨Hr, -⟩, Hb, HO⟩
  isplitl [Ha Hr]; · isplitl [Ha] <;> iassumption
  isplitl [Hb] <;> iassumption

def segs : List (Pipeline.Seg (pcfgs (F := F)) adm (pdats m) () defs₀ 𝒱₀ L lv) :=
  [.host (seg0 m), .region (reg m), .host (seg1 m)]

theorem main_eq (c : Dev nD) : main (F := F) c = Pipeline.Seg.run (segs m) :=
  Gen.main_segs adm (pdats m) () 𝒱₀ L lv (seg0 m) (seg1 m) (reg m) rfl rfl c

/-! ## The agreements of all devices, and their tokens -/

/-- A device's five semaphores of the protocol. -/
def csem : Fin 5 → SemLoc sig := fun | 0 => .reg barS | 1 => .dma (sS 0) | 2 => .dma (sS 1) | 3 => .dma (rS 0) | 4 => .dma (rS 1)

theorem csem_inj : Function.Injective csem := by decide
theorem osem_inj : Function.Injective osem := by decide
theorem osem_ne_bar : ∀ k, osem k ≠ .reg barS := by decide

/-- Semaphores of all devices, told apart by device and name. -/
def onAll {n : ℕ} (sm : Fin n → SemLoc sig) (h : Function.Injective sm) : Dev nD × Fin n ↪ GSem nD τ sig :=
  ⟨fun ck => ((ck.1 : Thread nD τ), sm ck.2), fun _ _ e =>
    Prod.ext (congrArg (fun g : GSem nD τ sig => g.1.1) e) (h (congrArg Prod.snd e))⟩
def barEmb : Dev nD ↪ GSem nD τ sig := ⟨fun c => barCell c, fun _ _ e => congrArg (fun g : GSem nD τ sig => g.1.1) e⟩

abbrev barCells : Finset (GSem nD τ sig) := Finset.univ.map barEmb
abbrev scCells : Finset (GSem nD τ sig) := Finset.univ.map (onAll osem osem_inj)
/-- One duty, of round 0, on each. -/
def tokEmb : GSem nD τ sig ↪ GSem nD τ sig × ℕ × Unit := ⟨fun g => (g, 0, ()), fun _ _ e => congrArg Prod.fst e⟩
def talkToks : Finset (GSem nD τ sig × ℕ × Unit) := (Finset.univ.map (onAll csem csem_inj)).map tokEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

abbrev cells : Finset (GSem nD τ sig) := barCells ∪ scCells
theorem bar_mem (c : Dev nD) : barCell c ∈ cells :=
  Finset.mem_union_left _ (Finset.mem_map_of_mem barEmb (Finset.mem_univ c))
theorem osem_mem (c : Dev nD) (k : Fin 4) : ((c : Thread nD τ), osem k) ∈ cells :=
  Finset.mem_union_right _ (Finset.mem_map_of_mem (onAll osem osem_inj) (Finset.mem_univ (c, k)))

def u₀ : UU :=
  (initOf (Pipeline.cells (Pipeline.pin (pcfgs (F := F)) adm) Gen.cellOf_inj) (Pipeline.launchToks (Pipeline.pin (pcfgs (F := F)) adm) Gen.cellOf_inj),
    launchOf barCells scCells talkToks)

/-- The protocol's launch resource, all of it on one device until it is dealt. -/
def G (c : Dev nD) : sProp 𝕄 := if c = 0 then BI.own (ER (launchOf barCells scCells talkToks)) else iprop(emp)
theorem bigSep_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may look up: all the agreements, and that every barrier is at its first round. -/
def records (κ : GSem nD τ sig → ℕ) : sProp 𝕄 :=
  iprop((bigSep cells fun g => cellInv ER (talkRd (kd m) (vd m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ cells) :
    records m κ ⊢ cellInv ER (talkRd (kd m) (vd m)) (κ g) g := by
  have h : (bigSep cells fun g => (cellInv ER (talkRd (kd m) (vd m)) (κ g) g : sProp 𝕄)) ⊢ cellInv ER (talkRd (kd m) (vd m)) (κ g) g := bigSep_elim hg
  unfold records
  iintro ⟨#HI, -⟩
  iapply h; iexact HI
theorem reached_at (κ : GSem nD τ sig → ℕ) (c : Dev nD) : records m κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, #HR⟩
  iapply h; iexact HR

theorem invs_of (κ : GSem nD τ sig → ℕ) (c : Dev nD) : records m κ ⊢ invs (kd m) (vd m) κ c := by
  unfold invs
  iintro #H
  isplitr; · iapply (inv_at m κ (bar_mem c)); iexact H
  isplitr; · iapply (inv_at m κ (osem_mem c 0)); iexact H
  isplitr; · iapply (inv_at m κ (osem_mem c 1)); iexact H
  isplitr; · iapply (inv_at m κ (osem_mem c 2)); iexact H
  isplitr; · iapply (inv_at m κ (osem_mem c 3)); iexact H
  isplitr; · iapply (inv_at m κ (bar_mem (pr c))); iexact H
  isplitr; · iapply (inv_at m κ (osem_mem (pr c) 2)); iexact H
  iapply (inv_at m κ (osem_mem (pr c) 3)); iexact H

/-- A device's own of the protocol: its barrier's position, its rights to open, the tokens of the duties it pays. -/
def linear (c : Dev nD) : sProp 𝕄 :=
  iprop(atPos ER (barCell c) 0 ∅ 0
    ∗ (openTok ER (sCell 0 c) ∗ openTok ER (sCell 1 c) ∗ openTok ER (rCell 0 c) ∗ openTok ER (rCell 1 c)) ∗ duts c)

theorem ghost_intro (κ : GSem nD τ sig → ℕ) (c : Dev nD) : iprop(records m κ ∗ linear c) ⊢ iprop(∃ K, ghost (kd m) (vd m) K c) := by
  unfold linear ghost
  iintro ⟨#H, HaB, Ho, Hd⟩
  iexists κ
  isplitr; · iapply (invs_of m κ c); iexact H
  isplitl [HaB]; · iexact HaB
  isplitl [Ho]; · iexact Ho
  isplitr; · iapply (reached_at m κ (pr c)); iexact H
  iexact Hd

/-- The tokens as they come, those of a device's own semaphores; -/
def toks (c : Dev nD) : sProp 𝕄 :=
  iprop(dutyTok ER (barCell c) 0 () ∗ dutyTok ER (sCell 0 c) 0 () ∗ dutyTok ER (sCell 1 c) 0 ()
    ∗ dutyTok ER (rCell 0 c) 0 () ∗ dutyTok ER (rCell 1 c) 0 ())
theorem toks_eq : bigSep talkToks (fun x => (dutyTok ER x.1 x.2.1 x.2.2 : sProp 𝕄)) = bigSep Finset.univ fun c : Dev nD => toks c := by
  unfold talkToks; rw [bigSep_map, bigSep_map, bigSep_univ_prod]
  exact bigSep_congr fun c _ => by unfold toks; rw [bigSep_five]; rfl

/-- the barrier's and the arrivals' go to the partner. -/
theorem toks_around : (bigSep Finset.univ fun c : Dev nD => (toks c : sProp 𝕄)) ⊢ bigSep Finset.univ fun c : Dev nD => duts c := by
  have e (g : Dev nD → GSem nD τ sig) : (bigSep Finset.univ fun c : Dev nD => (dutyTok ER (g c) 0 () : sProp 𝕄))
      = bigSep Finset.univ fun c : Dev nD => dutyTok ER (g (pr c)) 0 () := bigSep_univ_equiv swap fun c : Dev nD => (dutyTok ER (g c) 0 () : sProp 𝕄)
  unfold toks duts
  simp only [bigSep_sep']
  rw [e barCell, e (rCell 0), e (rCell 1)]
  iintro ⟨Hb, Hs0, Hs1, Hr0, Hr1⟩
  isplitl [Hb]; · iexact Hb
  isplitl [Hr0]; · iexact Hr0
  isplitl [Hr1]; · iexact Hr1
  isplitl [Hs0] <;> iassumption

/-! ## The credits -/

/-- A semaphore `g` of the partner, read at every device: what is owed it is owed by the partner alone. -/
theorem tally_pr (g : Dev nD → GSem nD τ sig) (hg : ∀ c d, g c = g d → c = d) (n : ℕ) (d c : Dev nD) :
    (tallyAt (g (pr d)) () n : CellTallies nD τ sig Unit) (g c) () = if d = pr c then n else 0 := by
  rw [tallyAt_apply]
  by_cases h : d = pr c
  · subst h; rw [pr_pr, if_pos ⟨rfl, rfl⟩, if_pos rfl]
  · rw [if_neg (fun ⟨h1, _⟩ => h (by rw [hg _ _ h1, pr_pr])), if_neg h]
theorem tally_ne (g g' : GSem nD τ sig) (h : g.2 ≠ g'.2) (n : ℕ) : (tallyAt g' () n : CellTallies nD τ sig Unit) g () = 0 := by
  rw [tallyAt_ne_cell (fun e => h (by rw [e])), Finsupp.zero_apply]

theorem bar_inj (c d : Dev nD) (h : barCell c = barCell d) : c = d := congrArg (fun g : GSem nD τ sig => g.1.1) h
theorem rc_inj (s : Fin 2) (c d : Dev nD) (h : rCell s c = rCell s d) : c = d := congrArg (fun g : GSem nD τ sig => g.1.1) h

theorem owed_bar (d c : Dev nD) : O₀ d (barCell c) () = if d = pr c then 1 else 0 := by
  unfold O₀ O₁
  rw [Pi.add_apply, Finsupp.add_apply, Pi.add_apply, Finsupp.add_apply, tally_ne _ _ (r_ne_bar 1).symm, tally_ne _ _ (r_ne_bar 0).symm,
    tally_pr barCell bar_inj, Nat.zero_add]
theorem owed_r0 (d c : Dev nD) : O₀ d (rCell 0 c) () = if d = pr c then N else 0 := by
  unfold O₀ O₁
  rw [Pi.add_apply, Finsupp.add_apply, Pi.add_apply, Finsupp.add_apply, tally_ne _ (rCell 1 (pr d)) (fun h => absurd (r_inj 0 1 h) (by decide)), tally_ne _ (barCell (pr d)) (r_ne_bar 0),
    tally_pr (rCell 0) (rc_inj 0), Nat.zero_add, Nat.add_zero]
theorem owed_r1 (d c : Dev nD) : O₀ d (rCell 1 c) () = if d = pr c then N else 0 := by
  unfold O₀ O₁
  rw [Pi.add_apply, Finsupp.add_apply, Pi.add_apply, Finsupp.add_apply, tally_ne _ (rCell 0 (pr d)) (fun h => absurd (r_inj 1 0 h) (by decide)), tally_ne _ (barCell (pr d)) (r_ne_bar 1),
    tally_pr (rCell 1) (rc_inj 1), Nat.add_zero]

theorem launch_of (g : GSem nD τ sig) (c : Dev nD) (n : ℕ) (h : ∀ d : Dev nD, O₀ d g () = if d = pr c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

theorem creds (c : Dev nD) : (Pipeline.launchCred O₀ c : sProp 𝕄) ⊢ crds c := by
  unfold Pipeline.launchCred crds
  rw [bigSep_univ_at _ (SemLoc.reg barS), launch_of _ c 1 fun d => owed_bar d c]
  refine sep_mono_right ?_
  rw [bigSep_erase (Finset.mem_erase.mpr ⟨r_ne_bar 0, Finset.mem_univ (SemLoc.dma (rS 0))⟩), launch_of (rCell 0 c) c N fun d => owed_r0 d c]
  refine sep_mono_right ?_
  rw [← launch_of (rCell 1 c) c N fun d => owed_r1 d c]
  exact bigSep_elim (Finset.mem_erase.mpr ⟨fun h => absurd (r_inj 1 0 h) (by decide), Finset.mem_erase.mpr ⟨r_ne_bar 1, Finset.mem_univ _⟩⟩)

/-! ## The run -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₃ m c) ∗ semVal (barCell c) 0)

/-- What a device has at launch beside the protocol's part. -/
def bundle (c : Dev nD) : sProp 𝕄 :=
  iprop(StableHlo.held (c : Thread nD τ) bufs (V₀ m c) ∗ crds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R kept
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem deal (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hbar (Φ : GSem nD τ sig → sProp 𝕄) : bigSep barCells Φ = bigSep Finset.univ fun c : Dev nD => Φ (barCell c) :=
    bigSep_map (s := Finset.univ) barEmb (Φ := Φ)
  have hsc : bigSep scCells (fun g => (openTok ER g : sProp 𝕄)) = bigSep Finset.univ fun c : Dev nD =>
      iprop(openTok ER (sCell 0 c) ∗ openTok ER (sCell 1 c) ∗ openTok ER (rCell 0 c) ∗ openTok ER (rCell 1 c)) := by
    rw [bigSep_map, bigSep_univ_prod]
    exact bigSep_congr fun c _ => bigSep_four (fun k : Fin 4 => (openTok ER ((c : Thread nD τ), osem k) : sProp 𝕄))
  have hd : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) := bigSep_mono fun c _ => deal m ρ c
  iintro ⟨H, -⟩
  ihave H' := hd $$ H
  ihave H2 := (apart _ _) $$ H'; icases H2 with ⟨HB, H3⟩
  ihave H4 := (apart _ _) $$ H3; icases H4 with ⟨Hv, HG⟩
  ihave Hu := (Entails.of_eq (bigSep_G (F := F))) $$ HG
  imod (Rounds.fund_launch ER (talkRd (kd m) (vd m)) disjoint_cells (fun g _ h => h) talkToks) $$ [Hv Hu] with ⟨%κ, -, #Hinv, #Hr, Hat, Hopen, Htok⟩
  · isplitl [Hv]
    · iapply (Entails.of_eq (hbar fun g => (semVal g 0 : sProp 𝕄)).symm) $$ Hv
    · iexact Hu
  imodintro
  iapply (each_with (records m κ) (fun c => iprop(linear c ∗ bundle m c)) (T₀ m) fun c => T₀_intro m κ c)
  isplitr
  · unfold records
    isplitr; · iexact Hinv
    iexact Hr
  iapply (together _ _)
  isplitr [HB]
  · unfold linear
    iapply (together _ _); isplitl [Hat]; · iapply (Entails.of_eq (hbar fun g => (atPos ER g 0 ∅ 0 : sProp 𝕄))) $$ Hat
    iapply (together _ _); isplitl [Hopen]; · iapply (Entails.of_eq hsc) $$ Hopen
    iapply (toks_around (F := F))
    iapply (Entails.of_eq (toks_eq (F := F))) $$ Htok
  · iexact HB

/-! ## What the buffers hold at the end -/

/-- An array of queries, keys or values as the call takes it, and the result as the run gives it back. -/
abbrev flip (f : (⟨S4x256x16x64, .bf16⟩ : BufTy).Contents (Elt F)) : (⟨S4x16x256x64, .bf16⟩ : BufTy).Contents (Elt F) :=
  transpose S4x16x256x64 [0, 2, 1, 3] f transposes_S4x256x16x64_S4x16x256x64_0_2_1_3
abbrev unflip (f : (⟨S4x16x256x64, .f32⟩ : BufTy).Contents (Elt F)) : (⟨S4x256x16x64, .f32⟩ : BufTy).Contents (Elt F) :=
  transpose S4x256x16x64 [0, 2, 1, 3] f transposes_S4x16x256x64_S4x256x16x64_0_2_1_3

theorem qd_eq (c : Dev nD) : qd m c = flip (m ((c : Thread nD τ).loc main_arg0)) := by
  unfold qd V₁
  rw [StableHlo.after_cons, StableHlo.after_cons, StableHlo.after_cons, StableHlo.after_nil, StableHlo.unary_result_ne _ _ _ _ _ _ (by decide),
    StableHlo.unary_result_ne _ _ _ _ _ _ (by decide), StableHlo.unary_result]
  rfl
theorem kd_eq (c : Dev nD) : kd m c = flip (m ((c : Thread nD τ).loc main_arg1)) := by
  unfold kd V₁
  rw [StableHlo.after_cons, StableHlo.after_cons, StableHlo.after_cons, StableHlo.after_nil, StableHlo.unary_result_ne _ _ _ _ _ _ (by decide),
    StableHlo.unary_result, StableHlo.unary_result_ne _ _ _ _ _ _ (by decide)]
  rfl
theorem vd_eq (c : Dev nD) : vd m c = flip (m ((c : Thread nD τ).loc main_arg2)) := by
  unfold vd V₁
  rw [StableHlo.after_cons, StableHlo.after_cons, StableHlo.after_cons, StableHlo.after_nil, StableHlo.unary_result,
    StableHlo.unary_result_ne _ _ _ _ _ _ (by decide), StableHlo.unary_result_ne _ _ _ _ _ _ (by decide)]
  rfl

theorem V₃_v5 (c : Dev nD) : V₃ m c (Proc.devRef .tc main_v5) = unflip (out m c) := by
  unfold V₃
  rw [StableHlo.after_cons, StableHlo.after_nil, StableHlo.unary_result, V₂_v4]
theorem V₃_arg (c : Dev nD) (b : Ref sig .tc) (h1 : b ≠ main_v1) (h2 : b ≠ main_v2) (h3 : b ≠ main_v3) (h4 : b ≠ main_v4) (h5 : b ≠ main_v5) :
    V₃ m c (Proc.devRef .tc b) = m ((c : Thread nD τ).loc b) := by
  unfold V₃
  rw [StableHlo.after_cons, StableHlo.after_nil, StableHlo.unary_result_ne _ _ _ _ _ _ h5, V₂_of_ne m c _ (StableHlo.devRef_ne_of_ne h4)]
  unfold V₁
  rw [StableHlo.after_cons, StableHlo.after_cons, StableHlo.after_cons, StableHlo.after_nil, StableHlo.unary_result_ne _ _ _ _ _ _ h3,
    StableHlo.unary_result_ne _ _ _ _ _ _ h2, StableHlo.unary_result_ne _ _ _ _ _ _ h1]
  rfl

set_option backward.isDefEq.respectTransparency.types false in
/-- From any memory, with every semaphore at zero, every fair run on the 32 devices ends; then on every device the arguments
    are as they were and the result holds what `out` names, transposed; and every semaphore is at zero. -/
theorem run_main : θ_run defs (onTc (τ := τ) (main (F := F))) ⟨m, fun _ => 0, ρ⟩
    (fun r => (∀ c : Dev nD, r.2.mem ((c : Thread nD τ).loc main_v5) = unflip (out m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R' c)
        ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m ρ)
    (QY := fun c s => (s.mem ((c : Thread nD τ).loc main_v5) = V₃ m c (Proc.devRef .tc main_v5)
        ∧ s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)) ∧ s.sem (barCell c) = 0)
    (hfin := fun c s' => by
      dsimp only [Tₙ]; rw [bufs_eq]
      iintro ⟨⟨⟨H0, H1, H2, H5, -⟩, Hb0⟩, HSI⟩
      icombine HSI H0 gives %h0
      icombine HSI H1 gives %h1
      icombine HSI H2 gives %h2
      icombine HSI H5 gives %h5
      icombine HSI Hb0 gives %hb
      imodintro
      isplitr
      · ipureintro
        exact ⟨⟨Buf.eq_of_forall_mem_univ h5, Buf.eq_of_forall_mem_univ h0, Buf.eq_of_forall_mem_univ h1, Buf.eq_of_forall_mem_univ h2⟩,
          by simpa using hb⟩
      iexact HSI)
    (hQ := fun s h hs => ⟨fun c => by
        obtain ⟨⟨h5, h0, h1, h2⟩, -⟩ := h c
        rw [V₃_v5] at h5
        rw [V₃_arg m c _ (by decide) (by decide) (by decide) (by decide) (by decide)] at h0 h1 h2
        exact ⟨h5, h0, h1, h2⟩,
      sem_eq_zero hs fun c sm hsm => by
        obtain rfl := unscoped_eq sm hsm
        exact (h c).2⟩)

end Cert.KernelIdeal.Attn

end
-- ==== Proof.Softmax.lean ====
/-
  The mathematics of the value claim, on extended reals.

  `whole s v` is a row of attention the reference's way: a maximum and a sum over all 512 keys, each weight divided by
  the sum, then the weighted sum of the values. `halves` is the kernel's way: the keys in two halves, a maximum and a
  sum of each, and one division at the end. They agree when every score is a real number (`halves_eq_whole`): the
  maximum is then a real number, the sum of the exponentials a positive one, and multiplying by its inverse
  distributes over a sum of arbitrary values.
-/
module

public import Idealize.ShloMosaic.Lib.Pointwise

@[expose] public section

noncomputable section

namespace Cert.Softmax

open Idealize.ShloMosaic

/-- The greatest of finitely many scores, from minus infinity. -/
def top {n : ℕ} (s : Fin n → EReal) : EReal := Finset.fold max (Ideal.ofBits .f32 0xFF800000#32) s Finset.univ

/-- The scaled scores of a query row against the rows of keys. -/
def scores {n : ℕ} (q : Fin 64 → EReal) (k : Fin n → Fin 64 → EReal) (x : Fin n) : EReal :=
  (∑ y, q y * k x y) * Ideal.ofBits .f32 0x3E000000#32

/-- One result from the scores `a`, `b` and the values `u`, `w` of the two halves. -/
def halves (a b u w : Fin 256 → EReal) : EReal :=
  Ideal.div (∑ x, Ideal.exp (a x - max (top a) (top b)) * u x + ∑ x, Ideal.exp (b x - max (top a) (top b)) * w x)
    (∑ x, Ideal.exp (a x - max (top a) (top b)) + ∑ x, Ideal.exp (b x - max (top a) (top b)))

/-- The same result from all the scores and values. -/
def whole (s v : Fin 512 → EReal) : EReal :=
  ∑ x, v x * Ideal.div (Ideal.exp (s x - top s)) (∑ y, Ideal.exp (s y - top s))

/-! ## Constants -/

theorem bits_bot : Ideal.ofBits .f32 0xFF800000#32 = ⊥ := by simp [Ideal.ofBits, Ideal.ieee]
theorem bits_eighth : Ideal.ofBits .f32 0x3E000000#32 = ((0.125 : ℝ) : EReal) := by
  simp only [Ideal.ofBits, Ideal.ieee]
  rw [EReal.coe_eq_coe_iff.mpr (show (0.125 : ℝ) = 8388608 * (2 ^ 26)⁻¹ by norm_num), EReal.coe_mul]
  simp

/-! ## Greatest scores -/

theorem top_eq_sup {n : ℕ} (s : Fin n → EReal) : top s = Finset.univ.sup s := by
  unfold top; rw [bits_bot]; rfl

/-- The greatest of all is the greater of the greatest of two halves, however the halves lie. -/
theorem top_halves (p : Fin 256 ⊕ Fin 256 → Fin 512) (hp : Function.Surjective p) (s : Fin 512 → EReal) :
    max (top fun x => s (p (.inl x))) (top fun x => s (p (.inr x))) = top s := by
  rw [top_eq_sup, top_eq_sup, top_eq_sup]
  refine le_antisymm (max_le ?_ ?_) (Finset.sup_le fun j _ => ?_)
  · exact Finset.sup_le fun x _ => Finset.le_sup (f := s) (Finset.mem_univ _)
  · exact Finset.sup_le fun x _ => Finset.le_sup (f := s) (Finset.mem_univ _)
  · obtain ⟨y | y, rfl⟩ := hp j
    · exact le_max_of_le_left (Finset.le_sup (f := fun x => s (p (.inl x))) (Finset.mem_univ y))
    · exact le_max_of_le_right (Finset.le_sup (f := fun x => s (p (.inr x))) (Finset.mem_univ y))

/-- The greatest of some real scores is a real number. -/
theorem top_real (s : Fin 512 → EReal) (hs : ∀ j, ∃ r : ℝ, s j = r) : ∃ r : ℝ, top s = r := by
  obtain ⟨j, -, hj⟩ := Finset.exists_mem_eq_sup Finset.univ ⟨0, Finset.mem_univ _⟩ s
  rw [top_eq_sup, hj]; exact hs j

/-! ## Sums -/

theorem sum_halves (p : Fin 256 ⊕ Fin 256 → Fin 512) (hp : Function.Bijective p) (f : Fin 512 → EReal) :
    ∑ x, f (p (.inl x)) + ∑ x, f (p (.inr x)) = ∑ j, f j := by
  rw [← hp.sum_comp f, Fintype.sum_sum_type]

theorem coe_sum {ι : Type} (t : Finset ι) (f : ι → ℝ) : ∑ x ∈ t, ((f x : ℝ) : EReal) = ((∑ x ∈ t, f x : ℝ) : EReal) := by
  classical
  induction t using Finset.induction_on with
  | empty => simp
  | insert a t h ih => rw [Finset.sum_insert h, Finset.sum_insert h, ih, EReal.coe_add]

/-- Multiplying by a nonnegative real number distributes over a sum of extended reals. -/
theorem sum_mul_real {ι : Type} (t : Finset ι) (f : ι → EReal) (r : ℝ) (hr : 0 ≤ r) :
    (∑ x ∈ t, f x) * (r : EReal) = ∑ x ∈ t, f x * (r : EReal) := by
  classical
  induction t using Finset.induction_on with
  | empty => simp
  | insert a t h ih =>
    rw [Finset.sum_insert h, Finset.sum_insert h, ← ih]
    exact EReal.right_distrib_of_nonneg_of_ne_top (EReal.coe_nonneg.mpr hr) (EReal.coe_ne_top r) _ _

/-- Scores of finite queries and keys are real numbers. -/
theorem scores_real {n : ℕ} (q : Fin 64 → EReal) (k : Fin n → Fin 64 → EReal) (x : Fin n)
    (hq : ∀ y, ∃ r : ℝ, q y = r) (hk : ∀ y, ∃ r : ℝ, k x y = r) : ∃ r : ℝ, scores q k x = r := by
  choose a ha using hq
  choose b hb using hk
  refine ⟨(∑ y, a y * b y) * 0.125, ?_⟩
  unfold scores
  rw [bits_eighth, EReal.coe_mul, ← coe_sum]
  congr 1
  exact Finset.sum_congr rfl fun y _ => by rw [ha, hb, EReal.coe_mul]

/-! ## The two ways agree -/

/-- Dividing by a positive real number is multiplying by its inverse. -/
theorem div_real (x : EReal) (r : ℝ) (hr : 0 < r) : Ideal.div x (r : EReal) = x * ((r⁻¹ : ℝ) : EReal) := by
  unfold Ideal.div
  rw [if_neg (by exact_mod_cast hr.ne'), EReal.coe_inv]

theorem halves_eq_whole (p : Fin 256 ⊕ Fin 256 → Fin 512) (hp : Function.Bijective p) (s v : Fin 512 → EReal)
    (hs : ∀ j, ∃ r : ℝ, s j = r) :
    halves (fun x => s (p (.inl x))) (fun x => s (p (.inr x))) (fun x => v (p (.inl x))) (fun x => v (p (.inr x))) = whole s v := by
  unfold halves whole
  rw [top_halves p hp.surjective s, sum_halves p hp fun j => Ideal.exp (s j - top s) * v j,
    sum_halves p hp fun j => Ideal.exp (s j - top s)]
  obtain ⟨M, hM⟩ := top_real s hs
  choose a ha using hs
  have he : ∀ j, Ideal.exp (s j - top s) = ((Real.exp (a j - M) : ℝ) : EReal) := fun j => by
    rw [ha, hM, ← EReal.coe_sub]; rfl
  have hd : ∑ y, Ideal.exp (s y - top s) = ((∑ y, Real.exp (a y - M) : ℝ) : EReal) := by
    rw [← coe_sum]; exact Finset.sum_congr rfl fun y _ => he y
  have hpos : 0 < ∑ y, Real.exp (a y - M) := Finset.sum_pos (fun y _ => Real.exp_pos _) ⟨0, Finset.mem_univ _⟩
  rw [hd, div_real _ _ hpos, sum_mul_real _ _ _ (inv_nonneg.mpr hpos.le)]
  refine Finset.sum_congr rfl fun j _ => ?_
  rw [div_real _ _ hpos, mul_comm _ (v j), mul_assoc]

end Cert.Softmax

end
-- ==== Proof.HeadValue.lean ====
/-
  What the kernel computes, element by element, at the ideal instance.

  Head `(b, h)`'s element `(i, d)` is `halves` of the scores of query row `i` against the own and the partner's keys of
  the head, with column `d` of the own and of the partner's values (`outBuf_at`).
-/
module

public import proofs.«01_k».proof.Proof.Land
public import proofs.«01_k».proof.Proof.Softmax

@[expose] public section

noncomputable section

namespace Cert.KernelIdeal.Attn

open Cert.KernelIdeal Cert.KernelIdeal.Gen Cert.Softmax
open Idealize.ShloMosaic

set_option maxRecDepth 16384 in
theorem headOut_at (q k v : FVec Ideal S1x1x256x64 .bf16) (kr vr : FVec Ideal S1x1x1x256x64 .bf16) (r : Fin 256) (d : Fin 64) :
    headOut (F := Ideal) q k v kr vr (ix4 0 0 r d)
      = halves (Softmax.scores (fun y => q (ix4 0 0 r y)) fun x y => k (ix4 0 0 x y))
          (Softmax.scores (fun y => q (ix4 0 0 r y)) fun x y => kr (ix5 0 0 0 x y))
          (fun x => v (ix4 0 0 x d)) (fun x => vr (ix5 0 0 0 x d)) := by
  unfold headOut attend mix rowSum weight rowMax score
  pointwise
  rfl

/-- The number of a head. -/
def head (b : Fin 4) (h : Fin 16) : Fin 64 := ⟨16 * b.val + h.val, by omega⟩

theorem place_at (b : Fin 4) (h : Fin 16) (i : Fin 256) (d : Fin 64) : placeOf (ix4 b h i d) = ix4 0 0 i d := eq_ix4 _

/-- Where a head's block lies in a staged array, and in a half of the landing buffer. -/
theorem blk_emb (b : Fin 4) (h : Fin 16) (i : Fin 256) (d : Fin 64) : (blkR (head b h)).emb (ix4 0 0 i d) = ix4 b h i d := by
  rw [← place_at b h i d]
  exact emb_place (ix4 b h i d)

theorem land_emb (s : Fin 2) (b : Fin 4) (h : Fin 16) (i : Fin 256) (d : Fin 64) :
    (landR s (head b h)).emb (ix5 0 0 0 i d) = ix5 s b h i d := by
  funext a
  apply Fin.ext
  rw [Rect.emb_apply]
  fin_cases a
  · show s.val + 1 * 0 = s.val; omega
  · show (16 * b.val + h.val) / 16 + 1 * 0 = b.val; omega
  · show (16 * b.val + h.val) % 16 + 1 * 0 = h.val; omega
  · show 0 + 1 * i.val = i.val; omega
  · show 0 + 1 * d.val = d.val; omega

theorem blk_at (f : InBuf Ideal) (b : Fin 4) (h : Fin 16) (i : Fin 256) (d : Fin 64) :
    blkOf f (head b h) (ix4 0 0 i d) = f (ix4 b h i d) := by
  rw [blkOf_apply, blk_emb]

theorem land_keys (k v : InBuf Ideal) (b : Fin 4) (h : Fin 16) (i : Fin 256) (d : Fin 64) :
    landOf (landed k v) 0 (head b h) (ix5 0 0 0 i d) = k (ix4 b h i d) := by
  rw [landOf_apply, land_emb]
  show (if (0 : ℕ) = 0 then k (inHalf (ix5 0 b h i d)) else v (inHalf (ix5 0 b h i d))) = _
  rw [if_pos rfl]
  exact congrArg k (eq_ix4 _)

theorem land_values (k v : InBuf Ideal) (b : Fin 4) (h : Fin 16) (i : Fin 256) (d : Fin 64) :
    landOf (landed k v) 1 (head b h) (ix5 0 0 0 i d) = v (ix4 b h i d) := by
  rw [landOf_apply, land_emb]
  show (if (1 : ℕ) = 0 then k (inHalf (ix5 1 b h i d)) else v (inHalf (ix5 1 b h i d))) = _
  rw [if_neg (by decide)]
  exact congrArg v (eq_ix4 _)

theorem outBuf_at (q k v kr vr : InBuf Ideal) (b : Fin 4) (h : Fin 16) (i : Fin 256) (d : Fin 64) :
    outBuf q k v (landed kr vr) (ix4 b h i d)
      = halves (Softmax.scores (fun y => q (ix4 b h i y)) fun x y => k (ix4 b h x y))
          (Softmax.scores (fun y => q (ix4 b h i y)) fun x y => kr (ix4 b h x y))
          (fun x => v (ix4 b h x d)) (fun x => vr (ix4 b h x d)) := by
  show headOut (blkOf q (head b h)) (blkOf k (head b h)) (blkOf v (head b h)) (landOf (landed kr vr) 0 (head b h))
    (landOf (landed kr vr) 1 (head b h)) (placeOf (ix4 b h i d)) = _
  rw [place_at, headOut_at]
  simp only [blk_at, land_keys, land_values]

end Cert.KernelIdeal.Attn

end
-- ==== Proof.RefValue.lean ====
/-
  What the reference computes, element by element, at the ideal instance: `whole` of the scores of a query row against
  all the keys of its head, with a column of the head's values (`refOut_at`).
-/
module

public import proofs.«01_k».proof.Proof.Gen.ReferenceIdeal
public import proofs.«01_k».proof.Proof.Softmax

@[expose] public section

noncomputable section

namespace Cert.ReferenceIdeal.Attn

open Cert.ReferenceIdeal Cert.ReferenceIdeal.Gen Cert.Softmax
open Idealize.ShloMosaic

/-- An array of the reference; its scores; one number for each row of scores; the result. -/
abbrev Arg : Type := FVec Ideal S4x512x16x64 .bf16
abbrev Sco : Type := FVec Ideal S4x16x512x512 .f32
abbrev Row : Type := FVec Ideal S4x16x512 .f32
abbrev Res : Type := FVec Ideal S4x512x16x64 .f32

/-- The scaled scores of all heads. -/
def scored (q k : Arg) : Sco :=
  mulf (Host.dotGeneral dot_S4x512x16x64_S4x512x16x64_S4x16x512x512_3_3_1_1_02_02 none (extf .f32 q bitsLt_bf16_f32) (extf .f32 k bitsLt_bf16_f32))
    (broadcastInDim S4x16x512x512 ![] bcast_S_S4x16x512x512 (constant S_ .f32 0x3E000000#32))

/-- A row's number laid along the row. -/
def along (x : Row) : Sco :=
  broadcastInDim S4x16x512x512 ![0, 1, 2, 3] bcast_S4x16x512x1_S4x16x512x512_0_1_2_3
    (broadcastInDim S4x16x512x1 ![0, 1, 2] bcast_S4x16x512_S4x16x512x1_0_1_2 x)

/-- The exponentials of the scores less their row's greatest. -/
def powers (s : Sco) : Sco :=
  Host.exp (subf s (along (Host.reduce FloatOps.maximumf s (constant S_ .f32 0xFF800000#32) reducesTo_S4x16x512x512_S4x16x512_d3 h_S_)))

/-- The weights: the exponentials divided by their row's sum. -/
def weights (s : Sco) : Sco :=
  Host.divf (powers s) (along (Host.reduceAdd (powers s) (constant S_ .f32 0x00000000#32) reducesTo_S4x16x512x512_S4x16x512_d3 h_S_))

/-- The reference's result. -/
def refOut (q k v : Arg) : Res :=
  transpose S4x512x16x64 [0, 3, 1, 2]
    (Host.dotGeneral dot_S4x512x16x64_S4x16x512x512_S4x16x64x512_1_3_3_2_02_01 none (extf .f32 v bitsLt_bf16_f32) (weights (scored q k)))
    transposes_S4x16x64x512_S4x512x16x64_0_3_1_2

set_option maxRecDepth 16384 in
theorem scored_at (q k : Arg) (b : Fin 4) (h : Fin 16) (i j : Fin 512) :
    scored q k (ix4 b h i j) = Softmax.scores (fun y => q (ix4 b i h y)) (fun x y => k (ix4 b x h y)) j := by
  unfold scored
  pointwise
  rfl

set_option maxRecDepth 16384 in
theorem powers_at (s : Sco) (b : Fin 4) (h : Fin 16) (i j : Fin 512) :
    powers s (ix4 b h i j) = Ideal.exp (s (ix4 b h i j) - top fun x => s (ix4 b h i x)) := by
  unfold powers along
  pointwise
  rfl

set_option maxRecDepth 16384 in
theorem weights_at (s : Sco) (b : Fin 4) (h : Fin 16) (i j : Fin 512) :
    weights s (ix4 b h i j) = Ideal.div (powers s (ix4 b h i j)) (∑ x : Fin 512, powers s (ix4 b h i x)) := by
  unfold weights along
  pointwise

set_option maxRecDepth 16384 in
theorem refOut_at (q k v : Arg) (b : Fin 4) (i : Fin 512) (h : Fin 16) (d : Fin 64) :
    refOut q k v (ix4 b i h d)
      = whole (Softmax.scores (fun y => q (ix4 b i h y)) fun x y => k (ix4 b x h y)) (fun x => v (ix4 b x h d)) := by
  have e : refOut q k v (ix4 b i h d) = ∑ x : Fin 512, v (ix4 b x h d) * weights (scored q k) (ix4 b h i x) := by
    unfold refOut
    pointwise
  rw [e]
  simp only [weights_at, powers_at, scored_at]
  rfl

end Cert.ReferenceIdeal.Attn

end
-- ==== Proof.Value.lean ====
/-
  The kernel's result is the reference's, block by block.

  The precondition says that each device's queries and keys are finite (`finite_of`). A device's arrays being blocks
  of whole arrays (`part`), its own keys are one half of all the keys and its partner's are the other (`order_bij`), so
  `halves_eq_whole` makes each element the reference's (`value`).
-/
module

public import proofs.«01_k».proof.Defs
public import proofs.«01_k».proof.Proof.HeadValue
public import proofs.«01_k».proof.Proof.RefValue
public import proofs.«01_k».proof.Proof.Run
public import Idealize.ShloMosaic.Lib.ReduceAll

@[expose] public section

noncomputable section

namespace Cert.KernelIdeal.Attn

open Cert.KernelIdeal Cert.KernelIdeal.Gen Cert.Softmax
open Idealize.ShloMosaic Idealize.ShloMosaic.TcCoe

/-! ## The precondition -/

theorem facts_pre : Cert.Pre_finite_KernelIdeal.Facts := ⟨by decide, by decide, by decide, by decide⟩
theorem facts_pre_ref : Cert.Pre_finite_ReferenceIdeal.Facts := ⟨by decide, by decide, by decide, by decide⟩

/-- An extended real whose absolute value is less than plus infinity is a real number. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

abbrev Blk : Type := FVec Ideal S4x256x16x64 .bf16

/-- What the precondition says of a device's blocks: every query and every key is a real number. -/
theorem finite_of (q k v : Blk)
    (h : @Cert.Pre_finite_KernelIdeal.fn facts_pre Ideal _ q k v = fun _ => 1#1) :
    (∀ i, ∃ r : ℝ, q i = r) ∧ ∀ i, ∃ r : ℝ, k i = r := by
  haveI : Subsingleton Cert.Pre_finite_KernelIdeal.S_.Idx := ⟨fun a b => funext fun x => x.elim0⟩
  have h0 := congrFun h (fun x => x.elim0)
  obtain ⟨hq, hk⟩ := IntOp.andi_eq_one.1 h0
  exact ⟨fun i => real_of_olt _ (Host.reduce_andi_all _ _ _ _ _ hq i), fun i => real_of_olt _ (Host.reduce_andi_all _ _ _ _ _ hk i)⟩

/-! ## Where a device's rows lie -/

/-- The place of a device's row in the whole array. -/
def rowOf (c : Dev nD) (i : Fin 256) : Fin 512 := ⟨256 * (c.val / 16) + i.val, by
  have h : c.val < 32 := c.isLt
  omega⟩

/-- The own rows, then the partner's. -/
def order (c : Dev nD) : Fin 256 ⊕ Fin 256 → Fin 512 := Sum.elim (rowOf c) (rowOf (pr c))

theorem order_bij (c : Dev nD) : Function.Bijective (order c) := by
  have hc : c.val < 32 := c.isLt
  have hp : (pr c).val = (c.val + 16) % 32 := rfl
  refine (Fintype.bijective_iff_injective_and_card _).mpr ⟨?_, by simp⟩
  rintro (x | x) (y | y) h <;> have e := congrArg Fin.val h <;> simp only [order, Sum.elim_inl, Sum.elim_inr, rowOf] at e <;>
    rw [hp] at * <;> first | (congr 1; apply Fin.ext; omega) | (exfalso; omega)

/-- Device `c`'s part of a whole array. -/
abbrev part {α : Type} (c : Dev nD) (f : (⟨4, ![4, 512, 16, 64]⟩ : Shape).Idx → α) : S4x256x16x64.Idx → α :=
  Layout.blockN ⟨4, ![4, 256, 16, 64]⟩ ⟨4, ![4, 512, 16, 64]⟩ (Layout.meshBlock [2, 4, 4] ![[], [0], [], []] c) f

theorem part_at {α : Type} (c : Dev nD) (f : (⟨4, ![4, 512, 16, 64]⟩ : Shape).Idx → α) (b : Fin 4) (i : Fin 256) (h : Fin 16) (d : Fin 64) :
    part c f (ix4 b i h d) = f (ix4 b (rowOf c i) h d) := by
  have hc : c.val < 32 := c.isLt
  refine congrArg f (funext fun a => Fin.ext ?_)
  rw [Layout.TilesN.idx_val]
  fin_cases a
  · show 0 * 4 + b.val = b.val; omega
  · show (c.val / 16 % 2 * 1 + 0) * 256 + i.val = 256 * (c.val / 16) + i.val; omega
  · show 0 * 16 + h.val = h.val; omega
  · show 0 * 64 + d.val = d.val; omega

/-! ## The value -/

theorem flip_at (f : Blk) (b : Fin 4) (h : Fin 16) (i : Fin 256) (d : Fin 64) : flip (F := Ideal) f (ix4 b h i d) = f (ix4 b i h d) := by
  unfold flip
  pointwise

theorem unflip_at (f : OutBuf Ideal) (b : Fin 4) (i : Fin 256) (h : Fin 16) (d : Fin 64) : unflip (F := Ideal) f (ix4 b i h d) = f (ix4 b h i d) := by
  unfold unflip
  pointwise

/-- The result of a device whose arrays, and whose partner's, are parts of whole arrays with finite queries and keys. -/
theorem value (c : Dev nD) (Q K V : Cert.ReferenceIdeal.Attn.Arg)
    (hq : ∀ i, ∃ r : ℝ, part c Q i = r) (hk : ∀ e i, ∃ r : ℝ, part e K i = r) :
    unflip (F := Ideal) (outBuf (flip (F := Ideal) (part c Q)) (flip (F := Ideal) (part c K)) (flip (F := Ideal) (part c V))
        (landed (flip (F := Ideal) (part (pr c) K)) (flip (F := Ideal) (part (pr c) V))))
      = part c (Cert.ReferenceIdeal.Attn.refOut Q K V) := by
  funext j
  obtain ⟨b, i, h, d, rfl⟩ : ∃ (b : Fin 4) (i : Fin 256) (h : Fin 16) (d : Fin 64), j = ix4 b i h d := ⟨j 0, j 1, j 2, j 3, eq_ix4 j⟩
  have hK : ∀ x y, ∃ r : ℝ, K (ix4 b x h y) = r := fun x y => by
    obtain ⟨z | z, rfl⟩ := (order_bij c).surjective x
    · have := hk c (ix4 b z h y); rwa [part_at] at this
    · have := hk (pr c) (ix4 b z h y); rwa [part_at] at this
  have hQ : ∀ y, ∃ r : ℝ, Q (ix4 b (rowOf c i) h y) = r := fun y => by
    have := hq (ix4 b i h y); rwa [part_at] at this
  rw [unflip_at, outBuf_at, part_at, Cert.ReferenceIdeal.Attn.refOut_at]
  simp only [flip_at, part_at]
  exact halves_eq_whole (order c) (order_bij c) (Softmax.scores (fun y => Q (ix4 b (rowOf c i) h y)) fun x y => K (ix4 b x h y))
    (fun x => V (ix4 b x h d)) fun x => scores_real _ _ x hQ (hK x)

end Cert.KernelIdeal.Attn

end
-- ==== Proof.lean ====
/-
  The claims, from the run of the kernel (Proof/Run.lean), written once for any float instance, the run of the reference,
  and the equality of their results (Proof/Value.lean).
-/
module

public import proofs.«01_k».proof.Defs
public import proofs.«01_k».proof.Proof.Gen.Kernel
public import proofs.«01_k».proof.Proof.Gen.ReferenceIdeal.Run
public import proofs.«01_k».proof.Proof.Run
public import proofs.«01_k».proof.Proof.Value

@[expose] public section

noncomputable section

namespace Cert.Proof

open Idealize.ShloMosaic Idealize.SL.Sem Cert.KernelIdeal.Attn

/-- The printed kernel's table of bodies is its idealization's, which is the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) :=
  congrArg (Pipeline.defs Cert.KernelIdeal.pcfgs) bodies_eq

/-- So the printed kernel's run is the one proved, at bits. -/
theorem frame_kernel : Cert.quiescent_Kernel := fun m ρ _ => by
  rw [defs_eq]
  exact (θ_run (Cert.KernelIdeal.defs (F := Bits)) _ _).mono (fun _ h => ⟨fun c => (h.1 c).2, h.2⟩) (run_main (F := Bits) m ρ)

theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the kernel's result holds on a device, when the devices' arrays are parts of whole arrays. -/
theorem result_eq (m : (ℓ : Loc Cert.KernelIdeal.nD Cert.KernelIdeal.τ Cert.KernelIdeal.sig) → Buf (Elt Ideal) ℓ)
    (Q K V : Cert.ReferenceIdeal.Attn.Arg)
    (hp : @Cert.Pre_KernelIdeal_finite_KernelIdeal facts_pre m)
    (hm : ∀ c : Dev Cert.KernelIdeal.nD, m ((c.tc : Thread Cert.KernelIdeal.nD Cert.KernelIdeal.τ).loc Cert.KernelIdeal.main_arg0) = part c Q
      ∧ m ((c.tc : Thread Cert.KernelIdeal.nD Cert.KernelIdeal.τ).loc Cert.KernelIdeal.main_arg1) = part c K
      ∧ m ((c.tc : Thread Cert.KernelIdeal.nD Cert.KernelIdeal.τ).loc Cert.KernelIdeal.main_arg2) = part c V)
    (c : Dev Cert.KernelIdeal.nD) :
    unflip (F := Ideal) (out m c) = part c (Cert.ReferenceIdeal.Attn.refOut Q K V) := by
  have hf := fun e => finite_of _ _ _ (hp e)
  have hq : ∀ i, ∃ r : ℝ, part c Q i = r := by rw [← (hm c).1]; exact (hf c).1
  have hk : ∀ e i, ∃ r : ℝ, part e K i = r := fun e => by rw [← (hm e).2.1]; exact (hf e).2
  refine Eq.trans ?_ (value c Q K V hq hk)
  show unflip (F := Ideal) (outBuf (qd m c) (kd m c) (vd m c) (landed (kd m (pr c)) (vd m (pr c)))) = _
  rw [qd_eq, kd_eq, vd_eq, kd_eq, vd_eq, (hm c).1, (hm c).2.1, (hm c).2.2, (hm (pr c)).2.1, (hm (pr c)).2.2]

theorem same_value : @Cert.algebraic_KernelIdeal_ReferenceIdeal_pre_finite_KernelIdeal Cert.KernelIdeal.Gen.facts Cert.ReferenceIdeal.Gen.facts facts_pre :=
  fun m g m' g' hp hm =>
    ⟨Cert.ReferenceIdeal.Attn.refOut
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2)),
      (θ_run (Cert.KernelIdeal.defs (F := Ideal)) _ _).mono
        (fun _ h c => ⟨((h.1 c).1).trans (result_eq m _ _ _ hp hm c), (h.1 c).2⟩) (run_main (F := Ideal) m g),
      (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, facts_pre, facts_pre_ref,
    frame_kernel, frame_ideal, fun m g _ => frame_ideal m g trivial, frame_reference, fun m g _ => frame_reference m g trivial,
    trivial, same_value⟩

end Cert.Proof

end
